-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "spacing" .f32 0x3FAAAAAB#32 ((4 / 3 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4x512x4x3 : Shape := ⟨4, ![4, 512, 4, 3]⟩
abbrev S4x512 : Shape := ⟨2, ![4, 512]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x512x1x3 : Shape := ⟨4, ![4, 512, 1, 3]⟩
abbrev S4x512x3 : Shape := ⟨3, ![4, 512, 3]⟩
abbrev S_ : Shape := ⟨0, ![]⟩

class Facts : Prop where
  slices_S4x512x4x3_S4x512x1x3_0_0_1_0 : S4x512x4x3.Slices ![0, 0, 1, 0] S4x512x1x3
  shapeCasts_S4x512x1x3_S4x512x3 : S4x512x1x3.ShapeCasts S4x512x3
  bcast_S_S4x512x3 : S_.BroadcastsInDim S4x512x3 (![] : Fin 0 → Fin S4x512x3.rank)
  reducesTo_S4x512x3_S_d0_1_2 : S4x512x3.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_v13 : IVec S_ 1) (main_v15 : IVec S4x512 1) (main_c_5 : IVec S_ 1) : IVec S_ 1 :=
  let main_v16 : IVec S_ 1 := (fun x v => Host.reduce IntOp.andi x v reducesTo_S4x512_S_d0_1 h_S_) main_v15 main_c_5
  let main_v17 : IVec S_ 1 := andi main_v13 main_v16
  main_v17

def fn {F : FTy → Type} [FloatOps F] (main_arg0 : FVec F S4x512x4x3 .f32) (main_arg1 : FVec F S4x512 .f32) (main_arg2 : IVec S4x512 32) (main_arg3 : IVec S4x512 32) (main_arg4 : FVec F S66x16 .f32) (main_arg5 : FVec F S16 .f32) (main_arg6 : FVec F S416x128 .f32) (main_arg7 : FVec F S128 .f32) (main_arg8 : FVec F S128 .f32) : IVec S_ 1 :=
  let main_v0 : FVec F S4x512x1x3 .f32 := (extractStridedSlice S4x512x1x3 ![0, 0, 1, 0] · slices_S4x512x4x3_S4x512x1x3_0_0_1_0) main_arg0
  let main_v1 : FVec F S4x512x3 .f32 := shapeCast S4x512x3 main_v0 shapeCasts_S4x512x1x3_S4x512x3
  let main_v2 : FVec F S4x512x3 .f32 := Host.absf main_v1
  let main_cst : FVec F S_ .f32 := constant S_ .f32 0x7E800000#32
  let main_v3 : FVec F S4x512x3 .f32 := broadcastInDim S4x512x3 ![] bcast_S_S4x512x3 main_cst
  let main_v4 : IVec S4x512x3 1 := cmpf .ole main_v2 main_v3
  let main_c : IVec S_ 1 := constantI S_ 1 1#1
  let main_v5 : IVec S_ 1 := (fun x v => Host.reduce IntOp.andi x v reducesTo_S4x512x3_S_d0_1_2 h_S_) main_v4 main_c
  let main_cst_0 : FVec F S_ .f32 := constant S_ .f32 0x3F800000#32
  let main_v6 : FVec F S4x512 .f32 := broadcastInDim S4x512 ![] bcast_S_S4x512 main_cst_0
  let main_v7 : IVec S4x512 1 := cmpf .oeq main_arg1 main_v6
  let main_c_1 : IVec S_ 1 := constantI S_ 1 1#1
  let main_v8 : IVec S_ 1 := (fun x v => Host.reduce IntOp.andi x v reducesTo_S4x512_S_d0_1 h_S_) main_v7 main_c_1
  let main_v9 : IVec S_ 1 := andi main_v5 main_v8
  let main_c_2 : IVec S_ 32 := constantI S_ 32 0#32
  let main_v10 : IVec S4x512 32 := broadcastInDim S4x512 ![] bcast_S_S4x512 main_c_2
  let main_v11 : IVec S4x512 1 := cmpi .sge main_arg2 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v9 main_v12
  let main_c_4 : IVec S_ 32 := constantI S_ 32 1073741824#32
  let main_v14 : IVec S4x512 32 := broadcastInDim S4x512 ![] bcast_S_S4x512 main_c_4
  let main_v15 : IVec S4x512 1 := cmpi .slt main_arg2 main_v14
  let main_c_5 : IVec S_ 1 := constantI S_ 1 1#1
  fn_part1 (F := F) main_v13 main_v15 main_c_5
-- ==== Kernel.lean ====
abbrev S4x512x4x3 : Shape := ⟨4, ![4, 512, 4, 3]⟩
abbrev S4x512 : Shape := ⟨2, ![4, 512]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x512x1x3 : Shape := ⟨4, ![4, 512, 1, 3]⟩
abbrev S4x512x3 : Shape := ⟨3, ![4, 512, 3]⟩
abbrev S4x512x1 : Shape := ⟨3, ![4, 512, 1]⟩
abbrev S1x4x512 : Shape := ⟨3, ![1, 4, 512]⟩
abbrev S3x4x512 : Shape := ⟨3, ![3, 4, 512]⟩
abbrev S_ : Shape := ⟨0, ![]⟩
abbrev S4x512x15 : Shape := ⟨3, ![4, 512, 15]⟩
abbrev S4x512x17 : Shape := ⟨3, ![4, 512, 17]⟩
abbrev S4x3x512 : Shape := ⟨3, ![4, 3, 512]⟩
abbrev S4x512x64 : Shape := ⟨3, ![4, 512, 64]⟩
abbrev S1x512x3 : Shape := ⟨3, ![1, 512, 3]⟩
abbrev S1x3x512 : Shape := ⟨3, ![1, 3, 512]⟩
abbrev S1x512x64 : Shape := ⟨3, ![1, 512, 64]⟩
abbrev S512x3 : Shape := ⟨2, ![512, 3]⟩
abbrev S3x512 : Shape := ⟨2, ![3, 512]⟩
abbrev S512x1 : Shape := ⟨2, ![512, 1]⟩
abbrev S1x512 : Shape := ⟨2, ![1, 512]⟩
abbrev S512x512 : Shape := ⟨2, ![512, 512]⟩
abbrev S512x64 : Shape := ⟨2, ![512, 64]⟩
abbrev S512 : Shape := ⟨1, ![512]⟩
abbrev S4x32768x1 : Shape := ⟨3, ![4, 32768, 1]⟩
abbrev S1x16 : Shape := ⟨2, ![1, 16]⟩
abbrev S1x128 : Shape := ⟨2, ![1, 128]⟩
abbrev S4x32768x128 : Shape := ⟨3, ![4, 32768, 128]⟩
abbrev S1x2048x1 : Shape := ⟨3, ![1, 2048, 1]⟩
abbrev S1x32x17 : Shape := ⟨3, ![1, 32, 17]⟩
abbrev S1x512x17 : Shape := ⟨3, ![1, 512, 17]⟩
abbrev S1x2048x128 : Shape := ⟨3, ![1, 2048, 128]⟩
abbrev S2048x1 : Shape := ⟨2, ![2048, 1]⟩
abbrev S2048x512 : Shape := ⟨2, ![2048, 512]⟩
abbrev S512x17 : Shape := ⟨2, ![512, 17]⟩
abbrev S2048x17 : Shape := ⟨2, ![2048, 17]⟩
abbrev S2048x32 : Shape := ⟨2, ![2048, 32]⟩
abbrev S32x17 : Shape := ⟨2, ![32, 17]⟩
abbrev S2048x66 : Shape := ⟨2, ![2048, 66]⟩
abbrev S2048x16 : Shape := ⟨2, ![2048, 16]⟩
abbrev S2048x3 : Shape := ⟨2, ![2048, 3]⟩
abbrev S2048 : Shape := ⟨1, ![2048]⟩
abbrev S2048x416 : Shape := ⟨2, ![2048, 416]⟩
abbrev S2048x128 : Shape := ⟨2, ![2048, 128]⟩
abbrev S4x512x64x128 : Shape := ⟨4, ![4, 512, 64, 128]⟩

abbrev nBuf : Space → Nat
  | .hbm => 73
  | .vmem => 23
  | .smem => 0
  | _ => 0

abbrev bufTy : (tb : Table) → Fin (tcTables nBuf tb) → BufTy
  | .hbm, ⟨0, _⟩ => ⟨S4x512x4x3, .f32⟩
  | .hbm, ⟨1, _⟩ => ⟨S4x512, .f32⟩
  | .hbm, ⟨2, _⟩ => ⟨S4x512, .i32⟩
  | .hbm, ⟨3, _⟩ => ⟨S4x512, .i32⟩
  | .hbm, ⟨4, _⟩ => ⟨S66x16, .f32⟩
  | .hbm, ⟨5, _⟩ => ⟨S16, .f32⟩
  | .hbm, ⟨6, _⟩ => ⟨S416x128, .f32⟩
  | .hbm, ⟨7, _⟩ => ⟨S128, .f32⟩
  | .hbm, ⟨8, _⟩ => ⟨S128, .f32⟩
  | .hbm, ⟨9, _⟩ => ⟨S4x512x1x3, .f32⟩
  | .hbm, ⟨10, _⟩ => ⟨S4x512x3, .f32⟩
  | .hbm, ⟨11, _⟩ => ⟨S4x512x1x3, .f32⟩
  | .hbm, ⟨12, _⟩ => ⟨S4x512x3, .f32⟩
  | .hbm, ⟨13, _⟩ => ⟨S4x512x1x3, .f32⟩
  | .hbm, ⟨14, _⟩ => ⟨S4x512x3, .f32⟩
  | .hbm, ⟨15, _⟩ => ⟨S4x512x1x3, .f32⟩
  | .hbm, ⟨16, _⟩ => ⟨S4x512x3, .f32⟩
  | .hbm, ⟨17, _⟩ => ⟨S4x512x3, .f32⟩
  | .hbm, ⟨18, _⟩ => ⟨S4x512x3, .f32⟩
  | .hbm, ⟨19, _⟩ => ⟨S4x512x1, .f32⟩
  | .hbm, ⟨20, _⟩ => ⟨S4x512, .f32⟩
  | .hbm, ⟨21, _⟩ => ⟨S4x512x1, .f32⟩
  | .hbm, ⟨22, _⟩ => ⟨S4x512, .f32⟩
  | .hbm, ⟨23, _⟩ => ⟨S4x512x1, .f32⟩
  | .hbm, ⟨24, _⟩ => ⟨S4x512, .f32⟩
  | .hbm, ⟨25, _⟩ => ⟨S4x512x1, .f32⟩
  | .hbm, ⟨26, _⟩ => ⟨S4x512, .f32⟩
  | .hbm, ⟨27, _⟩ => ⟨S4x512x1, .f32⟩
  | .hbm, ⟨28, _⟩ => ⟨S4x512, .f32⟩
  | .hbm, ⟨29, _⟩ => ⟨S4x512x1, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S1x4x512, .f32⟩
  | .hbm, ⟨41, _⟩ => ⟨S1x4x512, .f32⟩
  | .hbm, ⟨42, _⟩ => ⟨S1x4x512, .f32⟩
  | .hbm, ⟨43, _⟩ => ⟨S3x4x512, .f32⟩
  | .hbm, ⟨44, _⟩ => ⟨S4x512x3, .f32⟩
  | .hbm, ⟨45, _⟩ => ⟨S_, .f32⟩
  | .hbm, ⟨46, _⟩ => ⟨S4x512x3, .f32⟩
  | .hbm, ⟨47, _⟩ => ⟨S4x512x3, .f32⟩
  | .hbm, ⟨48, _⟩ => ⟨S_, .f32⟩
  | .hbm, ⟨49, _⟩ => ⟨S4x512x3, .f32⟩
  | .hbm, ⟨50, _⟩ => ⟨S4x512x3, .f32⟩
  | .hbm, ⟨51, _⟩ => ⟨S4x512x3, .f32⟩
  | .hbm, ⟨52, _⟩ => ⟨S_, .f32⟩
  | .hbm, ⟨53, _⟩ => ⟨S4x512x3, .f32⟩
  | .hbm, ⟨54, _⟩ => ⟨S4x512x3, .f32⟩
  | .hbm, ⟨55, _⟩ => ⟨S4x512x3, .f32⟩
  | .hbm, ⟨56, _⟩ => ⟨S4x512x3, .f32⟩
  | .hbm, ⟨57, _⟩ => ⟨S4x512x15, .f32⟩
  | .hbm, ⟨58, _⟩ => ⟨S4x512x1, .i32⟩
  | .hbm, ⟨59, _⟩ => ⟨S4x512x1, .f32⟩
  | .hbm, ⟨60, _⟩ => ⟨S4x512x1, .i32⟩
  | .hbm, ⟨61, _⟩ => ⟨S4x512x1, .f32⟩
  | .hbm, ⟨62, _⟩ => ⟨S4x512x17, .f32⟩
  | .hbm, ⟨63, _⟩ => ⟨S4x3x512, .f32⟩
  | .hbm, ⟨64, _⟩ => ⟨S4x512x64, .f32⟩
  | .hbm, ⟨65, _⟩ => ⟨S4x512x64, .i32⟩
  | .hbm, ⟨66, _⟩ => ⟨S4x32768x1, .i32⟩
  | .hbm, ⟨67, _⟩ => ⟨S4x32768x1, .f32⟩
  | .hbm, ⟨68, _⟩ => ⟨S1x16, .f32⟩
  | .hbm, ⟨69, _⟩ => ⟨S1x128, .f32⟩
  | .hbm, ⟨70, _⟩ => ⟨S1x128, .f32⟩
  | .hbm, ⟨71, _⟩ => ⟨S4x32768x128, .f32⟩
  | .hbm, ⟨72, _⟩ => ⟨S4x512x64x128, .f32⟩
  | .local _ .vmem, ⟨0, _⟩ => ⟨S1x512x3, .f32⟩
  | .local _ .vmem, ⟨1, _⟩ => ⟨S1x512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .i32⟩
  | .local _ .vmem, ⟨7, _⟩ => ⟨S1x512x64, .i32⟩
  | .local _ .vmem, ⟨8, _⟩ => ⟨S1x2048x1, .i32⟩
  | .local _ .vmem, ⟨9, _⟩ => ⟨S1x2048x1, .i32⟩
  | .local _ .vmem, ⟨10, _⟩ => ⟨S1x2048x1, .f32⟩
  | .local _ .vmem, ⟨11, _⟩ => ⟨S1x2048x1, .f32⟩
  | .local _ .vmem, ⟨12, _⟩ => ⟨S1x32x17, .f32⟩
  | .local _ .vmem, ⟨13, _⟩ => ⟨S1x32x17, .f32⟩
  | .local _ .vmem, ⟨14, _⟩ => ⟨S1x512x17, .f32⟩
  | .local _ .vmem, ⟨15, _⟩ => ⟨S1x512x17, .f32⟩
  | .local _ .vmem, ⟨16, _⟩ => ⟨S66x16, .f32⟩
  | .local _ .vmem, ⟨17, _⟩ => ⟨S1x16, .f32⟩
  | .local _ .vmem, ⟨18, _⟩ => ⟨S416x128, .f32⟩
  | .local _ .vmem, ⟨19, _⟩ => ⟨S1x128, .f32⟩
  | .local _ .vmem, ⟨20, _⟩ => ⟨S1x128, .f32⟩
  | .local _ .vmem, ⟨21, _⟩ => ⟨S1x2048x128, .f32⟩
  | .local _ .vmem, ⟨22, _⟩ => ⟨S1x2048x128, .f32⟩
  | _, _ => ⟨S4x512x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_cst_0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27_0 : Ref sig .tc := ⟨.hbm, 64, rfl⟩
abbrev main_v27_1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_7 : BitVec 32 := 0#32
  let c64_i32 : BitVec 32 := 64#32
  let v31 : BitVec 32 := Scalar.addi c0_i32_7 c64_i32
  let c1_i32 : BitVec 32 := 1#32
  ⟨c0_i32_7, v31, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x17 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x17 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S66x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S416x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "spacing" => some ((4 / 3 : ℝ) : EReal)
  | _ => none
-- ==== ReferenceIdeal.lean ====
abbrev S4x512x4x3 : Shape := ⟨4, ![4, 512, 4, 3]⟩
abbrev S4x512 : Shape := ⟨2, ![4, 512]⟩
abbrev S66x16 : Shape := ⟨2, ![66, 16]⟩
abbrev S16 : Shape := ⟨1, ![16]⟩
abbrev S416x128 : Shape := ⟨2, ![416, 128]⟩
abbrev S128 : Shape := ⟨1, ![128]⟩
abbrev S4x512x1x3 : Shape := ⟨4, ![4, 512, 1, 3]⟩
abbrev S4x512x3 : Shape := ⟨3, ![4, 512, 3]⟩
abbrev S4x512x1 : Shape := ⟨3, ![4, 512, 1]⟩
abbrev S_ : Shape := ⟨0, ![]⟩
abbrev S4x1x512 : Shape := ⟨3, ![4, 1, 512]⟩
abbrev S4x512x512 : Shape := ⟨3, ![4, 512, 512]⟩
abbrev S4x1x512x3 : Shape := ⟨4, ![4, 1, 512, 3]⟩
abbrev S4x512x512x3 : Shape := ⟨4, ![4, 512, 512, 3]⟩
abbrev S4x512x64 : Shape := ⟨3, ![4, 512, 64]⟩
abbrev S4x512x16x3 : Shape := ⟨4, ![4, 512, 16, 3]⟩
abbrev S4x512x8x3 : Shape := ⟨4, ![4, 512, 8, 3]⟩
abbrev S4x512x24x3 : Shape := ⟨4, ![4, 512, 24, 3]⟩
abbrev S4x512x1x24x3 : Shape := ⟨5, ![4, 512, 1, 24, 3]⟩
abbrev S4x1x512x24x3 : Shape := ⟨5, ![4, 1, 512, 24, 3]⟩
abbrev S4x512x512x24x3 : Shape := ⟨5, ![4, 512, 512, 24, 3]⟩
abbrev S4x512x512x24 : Shape := ⟨4, ![4, 512, 512, 24]⟩
abbrev S4x512x64x1 : Shape := ⟨4, ![4, 512, 64, 1]⟩
abbrev S1 : Shape := ⟨1, ![1]⟩
abbrev S1x1x1x1 : Shape := ⟨4, ![1, 1, 1, 1]⟩
abbrev S4x512x64x24 : Shape := ⟨4, ![4, 512, 64, 24]⟩
abbrev S15 : Shape := ⟨1, ![15]⟩
abbrev S4x512x64x24x1 : Shape := ⟨5, ![4, 512, 64, 24, 1]⟩
abbrev S1x1x1x1x16 : Shape := ⟨5, ![1, 1, 1, 1, 16]⟩
abbrev S4x512x64x24x16 : Shape := ⟨5, ![4, 512, 64, 24, 16]⟩
abbrev S4x512x64x384 : Shape := ⟨4, ![4, 512, 64, 384]⟩
abbrev S1x1x1x66 : Shape := ⟨4, ![1, 1, 1, 66]⟩
abbrev S4x512x64x66 : Shape := ⟨4, ![4, 512, 64, 66]⟩
abbrev S4x512x64x16 : Shape := ⟨4, ![4, 512, 64, 16]⟩
abbrev S1x1x1x16 : Shape := ⟨4, ![1, 1, 1, 16]⟩
abbrev S4x512x64x416 : Shape := ⟨4, ![4, 512, 64, 416]⟩
abbrev S4x512x64x128 : Shape := ⟨4, ![4, 512, 64, 128]⟩
abbrev S1x1x1x128 : Shape := ⟨4, ![1, 1, 1, 128]⟩

abbrev nBuf : Space → Nat
  | .hbm => 387
  | .vmem => 0
  | .smem => 0
  | _ => 0

abbrev hbmTy0_0 (i : Nat) : BufTy := match i % 128 with
  | 0 => ⟨S4x512x4x3, .f32⟩
  | 1 => ⟨S4x512, .f32⟩
  | 2 => ⟨S4x512, .i32⟩
  | 3 => ⟨S4x512, .i32⟩
  | 4 => ⟨S66x16, .f32⟩
  | 5 => ⟨S16, .f32⟩
  | 6 => ⟨S416x128, .f32⟩
  | 7 => ⟨S128, .f32⟩
  | 8 => ⟨S128, .f32⟩
  | 9 => ⟨S4x512x1x3, .f32⟩
  | 10 => ⟨S4x512x3, .f32⟩
  | 11 => ⟨S4x512x1x3, .f32⟩
  | 12 => ⟨S4x512x3, .f32⟩
  | 13 => ⟨S4x512x1x3, .f32⟩
  | 14 => ⟨S4x512x3, .f32⟩
  | 15 => ⟨S4x512x1x3, .f32⟩
  | 16 => ⟨S4x512x3, .f32⟩
  | 17 => ⟨S4x512x3, .f32⟩
  | 18 => ⟨S4x512x3, .f32⟩
  | 19 => ⟨S4x512x1, .f32⟩
  | 20 => ⟨S4x512, .f32⟩
  | 21 => ⟨S4x512x1, .f32⟩
  | 22 => ⟨S4x512, .f32⟩
  | 23 => ⟨S4x512, .f32⟩
  | 24 => ⟨S4x512x1, .f32⟩
  | 25 => ⟨S4x512, .f32⟩
  | 26 => ⟨S4x512x1, .f32⟩
  | 27 => ⟨S4x512, .f32⟩
  | 28 => ⟨S4x512, .f32⟩
  | 29 => ⟨S4x512, .f32⟩
  | 30 => ⟨S4x512x1, .f32⟩
  | 31 => ⟨S4x512, .f32⟩
  | 32 => ⟨S4x512x1, .f32⟩
  | 33 => ⟨S4x512, .f32⟩
  | 34 => ⟨S4x512, .f32⟩
  | 35 => ⟨S4x512x1, .f32⟩
  | 36 => ⟨S4x512, .f32⟩
  | 37 => ⟨S4x512x1, .f32⟩
  | 38 => ⟨S4x512, .f32⟩
  | 39 => ⟨S4x512, .f32⟩
  | 40 => ⟨S4x512, .f32⟩
  | 41 => ⟨S4x512x1, .f32⟩
  | 42 => ⟨S4x512, .f32⟩
  | 43 => ⟨S4x512x1, .f32⟩
  | 44 => ⟨S4x512, .f32⟩
  | 45 => ⟨S4x512, .f32⟩
  | 46 => ⟨S4x512x1, .f32⟩
  | 47 => ⟨S4x512, .f32⟩
  | 48 => ⟨S4x512x1, .f32⟩
  | 49 => ⟨S4x512, .f32⟩
  | 50 => ⟨S4x512, .f32⟩
  | 51 => ⟨S4x512, .f32⟩
  | 52 => ⟨S4x512x1, .f32⟩
  | 53 => ⟨S4x512x1, .f32⟩
  | 54 => ⟨S4x512x1, .f32⟩
  | 55 => ⟨S4x512x3, .f32⟩
  | 56 => ⟨S_, .f32⟩
  | 57 => ⟨S4x512x3, .f32⟩
  | 58 => ⟨S4x512x3, .f32⟩
  | 59 => ⟨S_, .f32⟩
  | 60 => ⟨S4x512x3, .f32⟩
  | 61 => ⟨S4x512x3, .f32⟩
  | 62 => ⟨S4x512x3, .f32⟩
  | 63 => ⟨S_, .f32⟩
  | 64 => ⟨S4x512x3, .f32⟩
  | 65 => ⟨S4x512x3, .f32⟩
  | 66 => ⟨S4x512x3, .f32⟩
  | 67 => ⟨S4x512x3, .f32⟩
  | 68 => ⟨S4x512x1, .f32⟩
  | 69 => ⟨S4x1x512, .f32⟩
  | 70 => ⟨S4x512x512, .f32⟩
  | 71 => ⟨S4x512x512, .f32⟩
  | 72 => ⟨S4x512x512, .f32⟩
  | 73 => ⟨S4x512x1x3, .f32⟩
  | 74 => ⟨S4x1x512x3, .f32⟩
  | 75 => ⟨S4x512x512x3, .f32⟩
  | 76 => ⟨S4x512x512x3, .f32⟩
  | 77 => ⟨S4x512x512x3, .f32⟩
  | 78 => ⟨S4x512x512x3, .f32⟩
  | 79 => ⟨S_, .f32⟩
  | 80 => ⟨S4x512x512, .f32⟩
  | 81 => ⟨S_, .f32⟩
  | 82 => ⟨S4x512x512, .f32⟩
  | 83 => ⟨S4x512x512, .f32⟩
  | 84 => ⟨S4x512x512, .f32⟩
  | 85 => ⟨S4x512x512, .f32⟩
  | 86 => ⟨S_, .f32⟩
  | 87 => ⟨S4x512, .f32⟩
  | 88 => ⟨S4x512x1, .f32⟩
  | 89 => ⟨S_, .f32⟩
  | 90 => ⟨S4x512x512, .f32⟩
  | 91 => ⟨S4x512x512, .f32⟩
  | 92 => ⟨S4x512x512, .f32⟩
  | 93 => ⟨S4x512x512, .f32⟩
  | 94 => ⟨S4x512x512, .f32⟩
  | 95 => ⟨S4x512x512, .f32⟩
  | 96 => ⟨S4x512x64, .f32⟩
  | 97 => ⟨S4x512x64, .i32⟩
  | 98 => ⟨S4x512x64, .f32⟩
  | 99 => ⟨S4x512x1x3, .f32⟩
  | 100 => ⟨S4x512x1x3, .f32⟩
  | 101 => ⟨S4x512x1x3, .f32⟩
  | 102 => ⟨S4x512x1x3, .f32⟩
  | 103 => ⟨S4x512x1x3, .f32⟩
  | 104 => ⟨S4x512x1x3, .f32⟩
  | 105 => ⟨S4x512x1x3, .f32⟩
  | 106 => ⟨S4x512x1x3, .f32⟩
  | 107 => ⟨S4x512x1x3, .f32⟩
  | 108 => ⟨S4x512x1x3, .f32⟩
  | 109 => ⟨S4x512x1x3, .f32⟩
  | 110 => ⟨S4x512x1x3, .f32⟩
  | 111 => ⟨S4x512x1x3, .f32⟩
  | 112 => ⟨S4x512x1x3, .f32⟩
  | 113 => ⟨S4x512x1x3, .f32⟩
  | 114 => ⟨S4x512x1x3, .f32⟩
  | 115 => ⟨S4x512x1x3, .f32⟩
  | 116 => ⟨S4x512x1x3, .f32⟩
  | 117 => ⟨S4x512x1x3, .f32⟩
  | 118 => ⟨S4x512x1x3, .f32⟩
  | 119 => ⟨S4x512x1x3, .f32⟩
  | 120 => ⟨S4x512x1x3, .f32⟩
  | 121 => ⟨S4x512x1x3, .f32⟩
  | 122 => ⟨S4x512x1x3, .f32⟩
  | 123 => ⟨S4x512x16x3, .f32⟩
  | 124 => ⟨S4x512x8x3, .f32⟩
  | 125 => ⟨S4x512x24x3, .f32⟩
  | 126 => ⟨S4x512x1x3, .f32⟩
  | 127 => ⟨S4x512x1x3, .f32⟩
  | _ => ⟨S4x512x4x3, .f32⟩

abbrev hbmTy0_1 (i : Nat) : BufTy := match i % 128 with
  | 0 => ⟨S4x512x1x3, .f32⟩
  | 1 => ⟨S4x512x1x3, .f32⟩
  | 2 => ⟨S4x512x1x3, .f32⟩
  | 3 => ⟨S4x512x1x3, .f32⟩
  | 4 => ⟨S4x512x1x3, .f32⟩
  | 5 => ⟨S4x512x1x3, .f32⟩
  | 6 => ⟨S4x512x1x3, .f32⟩
  | 7 => ⟨S4x512x1x3, .f32⟩
  | 8 => ⟨S4x512x1x3, .f32⟩
  | 9 => ⟨S4x512x1x3, .f32⟩
  | 10 => ⟨S4x512x1x3, .f32⟩
  | 11 => ⟨S4x512x1x3, .f32⟩
  | 12 => ⟨S4x512x1x3, .f32⟩
  | 13 => ⟨S4x512x1x3, .f32⟩
  | 14 => ⟨S4x512x1x3, .f32⟩
  | 15 => ⟨S4x512x1x3, .f32⟩
  | 16 => ⟨S4x512x1x3, .f32⟩
  | 17 => ⟨S4x512x1x3, .f32⟩
  | 18 => ⟨S4x512x1x3, .f32⟩
  | 19 => ⟨S4x512x1x3, .f32⟩
  | 20 => ⟨S4x512x1x3, .f32⟩
  | 21 => ⟨S4x512x1x3, .f32⟩
  | 22 => ⟨S4x512x16x3, .f32⟩
  | 23 => ⟨S4x512x8x3, .f32⟩
  | 24 => ⟨S4x512x24x3, .f32⟩
  | 25 => ⟨S4x512x1x24x3, .f32⟩
  | 26 => ⟨S4x1x512x24x3, .f32⟩
  | 27 => ⟨S4x512x512x24x3, .f32⟩
  | 28 => ⟨S4x512x512x24x3, .f32⟩
  | 29 => ⟨S4x512x512x24x3, .f32⟩
  | 30 => ⟨S4x512x512x24x3, .f32⟩
  | 31 => ⟨S_, .f32⟩
  | 32 => ⟨S4x512x512x24, .f32⟩
  | 33 => ⟨S_, .f32⟩
  | 34 => ⟨S4x512x512x24, .f32⟩
  | 35 => ⟨S4x512x512x24, .f32⟩
  | 36 => ⟨S4x512x512x24, .f32⟩
  | 37 => ⟨S4x512x64x1, .i32⟩
  | 38 => ⟨S_, .i32⟩
  | 39 => ⟨S4x512x64x1, .i32⟩
  | 40 => ⟨S4x512x64x1, .i1⟩
  | 41 => ⟨S_, .i32⟩
  | 42 => ⟨S4x512x64x1, .i32⟩
  | 43 => ⟨S4x512x64x1, .i32⟩
  | 44 => ⟨S4x512x64x1, .i32⟩
  | 45 => ⟨S1, .i32⟩
  | 46 => ⟨S_, .i32⟩
  | 47 => ⟨S4x512x64x1, .i32⟩
  | 48 => ⟨S4x512x64x1, .i1⟩
  | 49 => ⟨S1x1x1x1, .i32⟩
  | 50 => ⟨S4x512x64x1, .i32⟩
  | 51 => ⟨S4x512x64x1, .i1⟩
  | 52 => ⟨S4x512x64x1, .i1⟩
  | 53 => ⟨S_, .i1⟩
  | 54 => ⟨S4x512x64, .i1⟩
  | 55 => ⟨S4x512x64x24, .f32⟩
  | 56 => ⟨S4x512x64x24, .i1⟩
  | 57 => ⟨S_, .f32⟩
  | 58 => ⟨S4x512x64x24, .f32⟩
  | 59 => ⟨S4x512x64x24, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S15, .f32⟩
  | 68 => ⟨S_, .f32⟩
  | 69 => ⟨S15, .f32⟩
  | 70 => ⟨S15, .f32⟩
  | 71 => ⟨S1, .f32⟩
  | 72 => ⟨S_, .f32⟩
  | 73 => ⟨S15, .f32⟩
  | 74 => ⟨S15, .f32⟩
  | 75 => ⟨S15, .f32⟩
  | 76 => ⟨S15, .f32⟩
  | 77 => ⟨S1, .f32⟩
  | 78 => ⟨S15, .f32⟩
  | 79 => ⟨S15, .f32⟩
  | 80 => ⟨S15, .f32⟩
  | 81 => ⟨S1, .f32⟩
  | 82 => ⟨S16, .f32⟩
  | 83 => ⟨S4x512x64x24x1, .f32⟩
  | 84 => ⟨S1x1x1x1x16, .f32⟩
  | 85 => ⟨S4x512x64x24x16, .f32⟩
  | 86 => ⟨S4x512x64x24x16, .f32⟩
  | 87 => ⟨S4x512x64x24x16, .f32⟩
  | 88 => ⟨S_, .f32⟩
  | 89 => ⟨S4x512x64x24x16, .f32⟩
  | 90 => ⟨S4x512x64x24x16, .f32⟩
  | 91 => ⟨S4x512x64x24x16, .f32⟩
  | 92 => ⟨S4x512x64x24x16, .f32⟩
  | 93 => ⟨S4x512x64x24x16, .f32⟩
  | 94 => ⟨S4x512x64x384, .f32⟩
  | 95 => ⟨S4x512x1, .i32⟩
  | 96 => ⟨S4x1x512, .i32⟩
  | 97 => ⟨S4x512x512, .i32⟩
  | 98 => ⟨S4x512x512, .i32⟩
  | 99 => ⟨S4x512x512, .i32⟩
  | 100 => ⟨S_, .i32⟩
  | 101 => ⟨S4x512x64, .i32⟩
  | 102 => ⟨S4x512x64, .i1⟩
  | 103 => ⟨S_, .i32⟩
  | 104 => ⟨S4x512x64, .i32⟩
  | 105 => ⟨S4x512x64, .i32⟩
  | 106 => ⟨S4x512x64, .i32⟩
  | 107 => ⟨S4x512x64x1, .i32⟩
  | 108 => ⟨S1, .i32⟩
  | 109 => ⟨S_, .i32⟩
  | 110 => ⟨S4x512x64x1, .i32⟩
  | 111 => ⟨S4x512x64x1, .i1⟩
  | 112 => ⟨S1x1x1x1, .i32⟩
  | 113 => ⟨S4x512x64x1, .i32⟩
  | 114 => ⟨S4x512x64x1, .i1⟩
  | 115 => ⟨S4x512x64x1, .i1⟩
  | 116 => ⟨S_, .i1⟩
  | 117 => ⟨S4x512x64, .i1⟩
  | 118 => ⟨S4x512x64, .i32⟩
  | 119 => ⟨S_, .i32⟩
  | 120 => ⟨S4x512x64, .i32⟩
  | 121 => ⟨S4x512x64, .i32⟩
  | 122 => ⟨S4x512x1, .i32⟩
  | 123 => ⟨S4x1x512, .i32⟩
  | 124 => ⟨S4x512x512, .i32⟩
  | 125 => ⟨S4x512x512, .i32⟩
  | 126 => ⟨S4x512x512, .i1⟩
  | 127 => ⟨S4x512x512, .i32⟩
  | _ => ⟨S4x512x4x3, .f32⟩

abbrev hbmTy0_2 (i : Nat) : BufTy := match i % 128 with
  | 0 => ⟨S_, .i32⟩
  | 1 => ⟨S4x512x64, .i32⟩
  | 2 => ⟨S4x512x64, .i1⟩
  | 3 => ⟨S_, .i32⟩
  | 4 => ⟨S4x512x64, .i32⟩
  | 5 => ⟨S4x512x64, .i32⟩
  | 6 => ⟨S4x512x64, .i32⟩
  | 7 => ⟨S4x512x64x1, .i32⟩
  | 8 => ⟨S1, .i32⟩
  | 9 => ⟨S_, .i32⟩
  | 10 => ⟨S4x512x64x1, .i32⟩
  | 11 => ⟨S4x512x64x1, .i1⟩
  | 12 => ⟨S1x1x1x1, .i32⟩
  | 13 => ⟨S4x512x64x1, .i32⟩
  | 14 => ⟨S4x512x64x1, .i1⟩
  | 15 => ⟨S4x512x64x1, .i1⟩
  | 16 => ⟨S_, .i1⟩
  | 17 => ⟨S4x512x64, .i1⟩
  | 18 => ⟨S4x512x64, .i32⟩
  | 19 => ⟨S_, .i32⟩
  | 20 => ⟨S4x512x64, .i32⟩
  | 21 => ⟨S4x512x64, .i32⟩
  | 22 => ⟨S_, .i32⟩
  | 23 => ⟨S4x512x64, .i32⟩
  | 24 => ⟨S4x512x64, .i32⟩
  | 25 => ⟨S_, .i32⟩
  | 26 => ⟨S_, .i32⟩
  | 27 => ⟨S_, .i32⟩
  | 28 => ⟨S4x512x64, .i32⟩
  | 29 => ⟨S4x512x64, .i32⟩
  | 30 => ⟨S_, .i32⟩
  | 31 => ⟨S4x512x64, .i32⟩
  | 32 => ⟨S4x512x64, .i32⟩
  | 33 => ⟨S4x512x64, .i32⟩
  | 34 => ⟨S_, .i32⟩
  | 35 => ⟨S4x512x64, .i32⟩
  | 36 => ⟨S4x512x64, .i32⟩
  | 37 => ⟨S_, .i32⟩
  | 38 => ⟨S4x512x64, .i32⟩
  | 39 => ⟨S4x512x64, .i32⟩
  | 40 => ⟨S4x512x64, .i32⟩
  | 41 => ⟨S4x512x64x1, .i32⟩
  | 42 => ⟨S1x1x1x66, .i32⟩
  | 43 => ⟨S4x512x64x66, .i32⟩
  | 44 => ⟨S4x512x64x66, .i32⟩
  | 45 => ⟨S4x512x64x66, .i1⟩
  | 46 => ⟨S4x512x64x66, .f32⟩
  | 47 => ⟨S4x512x64x16, .f32⟩
  | 48 => ⟨S1x1x1x16, .f32⟩
  | 49 => ⟨S4x512x64x16, .f32⟩
  | 50 => ⟨S4x512x64x16, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S15, .f32⟩
  | 59 => ⟨S_, .f32⟩
  | 60 => ⟨S15, .f32⟩
  | 61 => ⟨S15, .f32⟩
  | 62 => ⟨S1, .f32⟩
  | 63 => ⟨S_, .f32⟩
  | 64 => ⟨S15, .f32⟩
  | 65 => ⟨S15, .f32⟩
  | 66 => ⟨S15, .f32⟩
  | 67 => ⟨S15, .f32⟩
  | 68 => ⟨S1, .f32⟩
  | 69 => ⟨S15, .f32⟩
  | 70 => ⟨S15, .f32⟩
  | 71 => ⟨S15, .f32⟩
  | 72 => ⟨S1, .f32⟩
  | 73 => ⟨S16, .f32⟩
  | 74 => ⟨S4x512x64x1, .f32⟩
  | 75 => ⟨S1x1x1x16, .f32⟩
  | 76 => ⟨S4x512x64x16, .f32⟩
  | 77 => ⟨S4x512x64x16, .f32⟩
  | 78 => ⟨S4x512x64x16, .f32⟩
  | 79 => ⟨S_, .f32⟩
  | 80 => ⟨S4x512x64x16, .f32⟩
  | 81 => ⟨S4x512x64x16, .f32⟩
  | 82 => ⟨S4x512x64x16, .f32⟩
  | 83 => ⟨S4x512x64x16, .f32⟩
  | 84 => ⟨S4x512x64x16, .f32⟩
  | 85 => ⟨S4x512x64x416, .f32⟩
  | 86 => ⟨S4x512x64x128, .f32⟩
  | 87 => ⟨S_, .f32⟩
  | 88 => ⟨S4x512x64, .f32⟩
  | 89 => ⟨S4x512x64x1, .f32⟩
  | 90 => ⟨S_, .f32⟩
  | 91 => ⟨S4x512x64x1, .f32⟩
  | 92 => ⟨S4x512x64x1, .f32⟩
  | 93 => ⟨S_, .i32⟩
  | 94 => ⟨S_, .f32⟩
  | 95 => ⟨S4x512x64, .f32⟩
  | 96 => ⟨S4x512x64x1, .f32⟩
  | 97 => ⟨S_, .f32⟩
  | 98 => ⟨S4x512x64x1, .f32⟩
  | 99 => ⟨S4x512x64x1, .f32⟩
  | 100 => ⟨S4x512x64x128, .f32⟩
  | 101 => ⟨S4x512x64x128, .f32⟩
  | 102 => ⟨S4x512x64x128, .f32⟩
  | 103 => ⟨S_, .f32⟩
  | 104 => ⟨S_, .f32⟩
  | 105 => ⟨S_, .f32⟩
  | 106 => ⟨S_, .f32⟩
  | 107 => ⟨S4x512x64, .f32⟩
  | 108 => ⟨S4x512x64x1, .f32⟩
  | 109 => ⟨S4x512x64x1, .f32⟩
  | 110 => ⟨S4x512x64x1, .f32⟩
  | 111 => ⟨S_, .f32⟩
  | 112 => ⟨S_, .i1⟩
  | 113 => ⟨S_, .f32⟩
  | 114 => ⟨S_, .f32⟩
  | 115 => ⟨S4x512x64x1, .f32⟩
  | 116 => ⟨S4x512x64x1, .f32⟩
  | 117 => ⟨S4x512x64x128, .f32⟩
  | 118 => ⟨S4x512x64x128, .f32⟩
  | 119 => ⟨S_, .f32⟩
  | 120 => ⟨S4x512x64x1, .f32⟩
  | 121 => ⟨S4x512x64x1, .f32⟩
  | 122 => ⟨S4x512x64x1, .f32⟩
  | 123 => ⟨S4x512x64x128, .f32⟩
  | 124 => ⟨S4x512x64x128, .f32⟩
  | 125 => ⟨S1x1x1x128, .f32⟩
  | 126 => ⟨S4x512x64x128, .f32⟩
  | 127 => ⟨S4x512x64x128, .f32⟩
  | _ => ⟨S4x512x4x3, .f32⟩

abbrev hbmTy0_3 (i : Nat) : BufTy := match i % 128 with
  | 0 => ⟨S1x1x1x128, .f32⟩
  | 1 => ⟨S4x512x64x128, .f32⟩
  | 2 => ⟨S4x512x64x128, .f32⟩
  | _ => ⟨S4x512x4x3, .f32⟩

abbrev hbmTy (i : Nat) : BufTy := match i / 128 with
  | 0 => hbmTy0_0 i
  | 1 => hbmTy0_1 i
  | 2 => hbmTy0_2 i
  | 3 => hbmTy0_3 i
  | _ => ⟨S4x512x4x3, .f32⟩

abbrev bufTy : (tb : Table) → Fin (tcTables nBuf tb) → BufTy
  | .hbm, ⟨i, _⟩ => hbmTy i
  | _, _ => ⟨S4x512x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst : Ref sig .tc := ⟨.hbm, 56, rfl⟩
abbrev main_v47 : Ref sig .tc := ⟨.hbm, 57, rfl⟩
abbrev main_v48 : Ref sig .tc := ⟨.hbm, 58, rfl⟩
abbrev main_cst_0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_2 : Ref sig .tc := ⟨.hbm, 79, rfl⟩
abbrev main_v67 : Ref sig .tc := ⟨.hbm, 80, rfl⟩
abbrev main_cst_3 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_4 : Ref sig .tc := ⟨.hbm, 86, rfl⟩
abbrev main_v72 : Ref sig .tc := ⟨.hbm, 87, rfl⟩
abbrev main_v73 : Ref sig .tc := ⟨.hbm, 88, rfl⟩
abbrev main_cst_5 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_values : Ref sig .tc := ⟨.hbm, 96, rfl⟩
abbrev main_indices : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_6 : Ref sig .tc := ⟨.hbm, 159, rfl⟩
abbrev main_v141 : Ref sig .tc := ⟨.hbm, 160, rfl⟩
abbrev main_cst_7 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_call0_c : Ref sig .tc := ⟨.hbm, 166, rfl⟩
abbrev main_call0_v0 : Ref sig .tc := ⟨.hbm, 167, rfl⟩
abbrev main_call0_v1 : Ref sig .tc := ⟨.hbm, 168, rfl⟩
abbrev main_call0_c_0 : Ref sig .tc := ⟨.hbm, 169, rfl⟩
abbrev main_call0_v2 : Ref sig .tc := ⟨.hbm, 170, rfl⟩
abbrev main_call0_v3 : Ref sig .tc := ⟨.hbm, 171, rfl⟩
abbrev main_call0_v4 : Ref sig .tc := ⟨.hbm, 172, rfl⟩
abbrev main_call0_c_1 : Ref sig .tc := ⟨.hbm, 173, rfl⟩
abbrev main_call0_c_2 : Ref sig .tc := ⟨.hbm, 174, rfl⟩
abbrev main_call0_v5 : Ref sig .tc := ⟨.hbm, 175, rfl⟩
abbrev main_call0_v6 : Ref sig .tc := ⟨.hbm, 176, rfl⟩
abbrev main_call0_v7 : Ref sig .tc := ⟨.hbm, 177, rfl⟩
abbrev main_call0_v8 : Ref sig .tc := ⟨.hbm, 178, rfl⟩
abbrev main_call0_v9 : Ref sig .tc := ⟨.hbm, 179, rfl⟩
abbrev main_call0_v10 : Ref sig .tc := ⟨.hbm, 180, rfl⟩
abbrev main_call0_c_3 : Ref sig .tc := ⟨.hbm, 181, rfl⟩
abbrev main_call0_v11 : Ref sig .tc := ⟨.hbm, 182, rfl⟩
abbrev main_call0_v12 : Ref sig .tc := ⟨.hbm, 183, rfl⟩
abbrev main_call0_v13 : Ref sig .tc := ⟨.hbm, 184, rfl⟩
abbrev main_call0_cst : Ref sig .tc := ⟨.hbm, 185, rfl⟩
abbrev main_call0_v14 : Ref sig .tc := ⟨.hbm, 186, rfl⟩
abbrev main_v146 : Ref sig .tc := ⟨.hbm, 187, rfl⟩
abbrev main_cst_8 : Ref sig .tc := ⟨.hbm, 188, rfl⟩
abbrev main_cst_9 : Ref sig .tc := ⟨.hbm, 189, rfl⟩
abbrev main_call1_v0 : Ref sig .tc := ⟨.hbm, 190, rfl⟩
abbrev main_call1_v1 : Ref sig .tc := ⟨.hbm, 191, rfl⟩
abbrev main_call1_v2 : Ref sig .tc := ⟨.hbm, 192, rfl⟩
abbrev main_call1_cst : Ref sig .tc := ⟨.hbm, 193, rfl⟩
abbrev main_call1_v3 : Ref sig .tc := ⟨.hbm, 194, rfl⟩
abbrev main_call1_v4 : Ref sig .tc := ⟨.hbm, 195, rfl⟩
abbrev main_call1_cst_0 : Ref sig .tc := ⟨.hbm, 196, rfl⟩
abbrev main_call1_v5 : Ref sig .tc := ⟨.hbm, 197, rfl⟩
abbrev main_call1_v6 : Ref sig .tc := ⟨.hbm, 198, rfl⟩
abbrev main_call1_v7 : Ref sig .tc := ⟨.hbm, 199, rfl⟩
abbrev main_call1_cst_1 : Ref sig .tc := ⟨.hbm, 200, rfl⟩
abbrev main_call1_v8 : Ref sig .tc := ⟨.hbm, 201, rfl⟩
abbrev main_call1_v9 : Ref sig .tc := ⟨.hbm, 202, rfl⟩
abbrev main_call1_v10 : Ref sig .tc := ⟨.hbm, 203, rfl⟩
abbrev main_call1_v11 : Ref sig .tc := ⟨.hbm, 204, rfl⟩
abbrev main_call1_v12 : Ref sig .tc := ⟨.hbm, 205, rfl⟩
abbrev main_call1_v13 : Ref sig .tc := ⟨.hbm, 206, rfl⟩
abbrev main_call1_v14 : Ref sig .tc := ⟨.hbm, 207, rfl⟩
abbrev main_call1_v15 : Ref sig .tc := ⟨.hbm, 208, rfl⟩
abbrev main_call1_v16 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_10 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_call2_c : Ref sig .tc := ⟨.hbm, 228, rfl⟩
abbrev main_call2_v0 : Ref sig .tc := ⟨.hbm, 229, rfl⟩
abbrev main_call2_v1 : Ref sig .tc := ⟨.hbm, 230, rfl⟩
abbrev main_call2_c_0 : Ref sig .tc := ⟨.hbm, 231, rfl⟩
abbrev main_call2_v2 : Ref sig .tc := ⟨.hbm, 232, rfl⟩
abbrev main_call2_v3 : Ref sig .tc := ⟨.hbm, 233, rfl⟩
abbrev main_call2_v4 : Ref sig .tc := ⟨.hbm, 234, rfl⟩
abbrev main_call2_v5 : Ref sig .tc := ⟨.hbm, 235, rfl⟩
abbrev main_call2_c_1 : Ref sig .tc := ⟨.hbm, 236, rfl⟩
abbrev main_call2_c_2 : Ref sig .tc := ⟨.hbm, 237, rfl⟩
abbrev main_call2_v6 : Ref sig .tc := ⟨.hbm, 238, rfl⟩
abbrev main_call2_v7 : Ref sig .tc := ⟨.hbm, 239, rfl⟩
abbrev main_call2_v8 : Ref sig .tc := ⟨.hbm, 240, rfl⟩
abbrev main_call2_v9 : Ref sig .tc := ⟨.hbm, 241, rfl⟩
abbrev main_call2_v10 : Ref sig .tc := ⟨.hbm, 242, rfl⟩
abbrev main_call2_v11 : Ref sig .tc := ⟨.hbm, 243, rfl⟩
abbrev main_call2_c_3 : Ref sig .tc := ⟨.hbm, 244, rfl⟩
abbrev main_call2_v12 : Ref sig .tc := ⟨.hbm, 245, rfl⟩
abbrev main_call2_v13 : Ref sig .tc := ⟨.hbm, 246, rfl⟩
abbrev main_call2_c_4 : Ref sig .tc := ⟨.hbm, 247, rfl⟩
abbrev main_call2_v14 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_call3_c : Ref sig .tc := ⟨.hbm, 256, rfl⟩
abbrev main_call3_v0 : Ref sig .tc := ⟨.hbm, 257, rfl⟩
abbrev main_call3_v1 : Ref sig .tc := ⟨.hbm, 258, rfl⟩
abbrev main_call3_c_0 : Ref sig .tc := ⟨.hbm, 259, rfl⟩
abbrev main_call3_v2 : Ref sig .tc := ⟨.hbm, 260, rfl⟩
abbrev main_call3_v3 : Ref sig .tc := ⟨.hbm, 261, rfl⟩
abbrev main_call3_v4 : Ref sig .tc := ⟨.hbm, 262, rfl⟩
abbrev main_call3_v5 : Ref sig .tc := ⟨.hbm, 263, rfl⟩
abbrev main_call3_c_1 : Ref sig .tc := ⟨.hbm, 264, rfl⟩
abbrev main_call3_c_2 : Ref sig .tc := ⟨.hbm, 265, rfl⟩
abbrev main_call3_v6 : Ref sig .tc := ⟨.hbm, 266, rfl⟩
abbrev main_call3_v7 : Ref sig .tc := ⟨.hbm, 267, rfl⟩
abbrev main_call3_v8 : Ref sig .tc := ⟨.hbm, 268, rfl⟩
abbrev main_call3_v9 : Ref sig .tc := ⟨.hbm, 269, rfl⟩
abbrev main_call3_v10 : Ref sig .tc := ⟨.hbm, 270, rfl⟩
abbrev main_call3_v11 : Ref sig .tc := ⟨.hbm, 271, rfl⟩
abbrev main_call3_c_3 : Ref sig .tc := ⟨.hbm, 272, rfl⟩
abbrev main_call3_v12 : Ref sig .tc := ⟨.hbm, 273, rfl⟩
abbrev main_call3_v13 : Ref sig .tc := ⟨.hbm, 274, rfl⟩
abbrev main_call3_c_4 : Ref sig .tc := ⟨.hbm, 275, rfl⟩
abbrev main_call3_v14 : Ref sig .tc := ⟨.hbm, 276, rfl⟩
abbrev main_v171 : Ref sig .tc := ⟨.hbm, 277, rfl⟩
abbrev main_c : Ref sig .tc := ⟨.hbm, 278, rfl⟩
abbrev main_v172 : Ref sig .tc := ⟨.hbm, 279, rfl⟩
abbrev main_v173 : Ref sig .tc := ⟨.hbm, 280, rfl⟩
abbrev main_c_11 : Ref sig .tc := ⟨.hbm, 281, rfl⟩
abbrev main_c_12 : Ref sig .tc := ⟨.hbm, 282, rfl⟩
abbrev main_call4_v0 : Ref sig .tc := ⟨.hbm, 283, rfl⟩
abbrev main_call4_v1 : Ref sig .tc := ⟨.hbm, 284, rfl⟩
abbrev main_call4_v2 : Ref sig .tc := ⟨.hbm, 285, rfl⟩
abbrev main_call4_v3 : Ref sig .tc := ⟨.hbm, 286, rfl⟩
abbrev main_call4_v4 : Ref sig .tc := ⟨.hbm, 287, rfl⟩
abbrev main_v174 : Ref sig .tc := ⟨.hbm, 288, rfl⟩
abbrev main_v175 : Ref sig .tc := ⟨.hbm, 289, rfl⟩
abbrev main_c_13 : Ref sig .tc := ⟨.hbm, 290, rfl⟩
abbrev main_v176 : Ref sig .tc := ⟨.hbm, 291, rfl⟩
abbrev main_v177 : Ref sig .tc := ⟨.hbm, 292, rfl⟩
abbrev main_c_14 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩
abbrev main_call5_v0 : Ref sig .tc := ⟨.hbm, 297, rfl⟩
abbrev main_call5_v1 : Ref sig .tc := ⟨.hbm, 298, rfl⟩
abbrev main_call5_v2 : Ref sig .tc := ⟨.hbm, 299, rfl⟩
abbrev main_call5_v3 : Ref sig .tc := ⟨.hbm, 300, rfl⟩
abbrev main_call5_v4 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_cst_15 : Ref sig .tc := ⟨.hbm, 307, rfl⟩
abbrev main_cst_16 : Ref sig .tc := ⟨.hbm, 308, rfl⟩
abbrev main_call6_v0 : Ref sig .tc := ⟨.hbm, 309, rfl⟩
abbrev main_call6_v1 : Ref sig .tc := ⟨.hbm, 310, rfl⟩
abbrev main_call6_v2 : Ref sig .tc := ⟨.hbm, 311, rfl⟩
abbrev main_call6_cst : Ref sig .tc := ⟨.hbm, 312, rfl⟩
abbrev main_call6_v3 : Ref sig .tc := ⟨.hbm, 313, rfl⟩
abbrev main_call6_v4 : Ref sig .tc := ⟨.hbm, 314, rfl⟩
abbrev main_call6_cst_0 : Ref sig .tc := ⟨.hbm, 315, rfl⟩
abbrev main_call6_v5 : Ref sig .tc := ⟨.hbm, 316, rfl⟩
abbrev main_call6_v6 : Ref sig .tc := ⟨.hbm, 317, rfl⟩
abbrev main_call6_v7 : Ref sig .tc := ⟨.hbm, 318, rfl⟩
abbrev main_call6_cst_1 : Ref sig .tc := ⟨.hbm, 319, rfl⟩
abbrev main_call6_v8 : Ref sig .tc := ⟨.hbm, 320, rfl⟩
abbrev main_call6_v9 : Ref sig .tc := ⟨.hbm, 321, rfl⟩
abbrev main_call6_v10 : Ref sig .tc := ⟨.hbm, 322, rfl⟩
abbrev main_call6_v11 : Ref sig .tc := ⟨.hbm, 323, rfl⟩
abbrev main_call6_v12 : Ref sig .tc := ⟨.hbm, 324, rfl⟩
abbrev main_call6_v13 : Ref sig .tc := ⟨.hbm, 325, rfl⟩
abbrev main_call6_v14 : Ref sig .tc := ⟨.hbm, 326, rfl⟩
abbrev main_call6_v15 : Ref sig .tc := ⟨.hbm, 327, rfl⟩
abbrev main_call6_v16 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_cst_17 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_v198 : Ref sig .tc := ⟨.hbm, 342, rfl⟩
abbrev main_cst_18 : Ref sig .tc := ⟨.hbm, 343, rfl⟩
abbrev main_v199 : Ref sig .tc := ⟨.hbm, 344, rfl⟩
abbrev main_v200 : Ref sig .tc := ⟨.hbm, 345, rfl⟩
abbrev main_cst_19 : Ref sig .tc := ⟨.hbm, 346, rfl⟩
abbrev main_v201 : Ref sig .tc := ⟨.hbm, 347, rfl⟩
abbrev main_v202 : Ref sig .tc := ⟨.hbm, 348, rfl⟩
abbrev main_c_20 : Ref sig .tc := ⟨.hbm, 349, rfl⟩
abbrev main_call7_cst : Ref sig .tc := ⟨.hbm, 350, rfl⟩
abbrev main_call7_v0 : Ref sig .tc := ⟨.hbm, 351, rfl⟩
abbrev main_call7_v1 : Ref sig .tc := ⟨.hbm, 352, rfl⟩
abbrev main_call7_cst_0 : Ref sig .tc := ⟨.hbm, 353, rfl⟩
abbrev main_call7_v2 : Ref sig .tc := ⟨.hbm, 354, rfl⟩
abbrev main_call7_v3 : Ref sig .tc := ⟨.hbm, 355, rfl⟩
abbrev main_call7_v4 : Ref sig .tc := ⟨.hbm, 356, rfl⟩
abbrev main_call7_v5 : Ref sig .tc := ⟨.hbm, 357, rfl⟩
abbrev main_call7_v6 : Ref sig .tc := ⟨.hbm, 358, rfl⟩
abbrev main_call7_v7 : Ref sig .tc := ⟨.hbm, 359, rfl⟩
abbrev main_call7_cst_1 : Ref sig .tc := ⟨.hbm, 360, rfl⟩
abbrev main_call7_v8 : Ref sig .tc := ⟨.hbm, 361, rfl⟩
abbrev main_call7_cst_2 : Ref sig .tc := ⟨.hbm, 362, rfl⟩
abbrev main_call7_v9 : Ref sig .tc := ⟨.hbm, 363, rfl⟩
abbrev main_call7_v10 : Ref sig .tc := ⟨.hbm, 364, rfl⟩
abbrev main_call7_v11 : Ref sig .tc := ⟨.hbm, 365, rfl⟩
abbrev main_call7_v12 : Ref sig .tc := ⟨.hbm, 366, rfl⟩
abbrev main_call7_cst_3 : Ref sig .tc := ⟨.hbm, 367, rfl⟩
abbrev main_call7_v13 : Ref sig .tc := ⟨.hbm, 368, rfl⟩
abbrev main_call7_cst_4 : Ref sig .tc := ⟨.hbm, 369, rfl⟩
abbrev main_call7_call0_v0 : Ref sig .tc := ⟨.hbm, 370, rfl⟩
abbrev main_call7_call0_v1 : Ref sig .tc := ⟨.hbm, 371, rfl⟩
abbrev main_v203 : Ref sig .tc := ⟨.hbm, 372, rfl⟩
abbrev main_v204 : Ref sig .tc := ⟨.hbm, 373, rfl⟩
abbrev main_v205 : Ref sig .tc := ⟨.hbm, 374, rfl⟩
abbrev main_cst_21 : Ref sig .tc := ⟨.hbm, 375, rfl⟩
abbrev main_v206 : Ref sig .tc := ⟨.hbm, 376, rfl⟩
abbrev main_v207 : Ref sig .tc := ⟨.hbm, 377, rfl⟩
abbrev main_v208 : Ref sig .tc := ⟨.hbm, 378, rfl⟩
abbrev main_v209 : Ref sig .tc := ⟨.hbm, 379, rfl⟩
abbrev main_v210 : Ref sig .tc := ⟨.hbm, 380, rfl⟩
abbrev main_v211 : Ref sig .tc := ⟨.hbm, 381, rfl⟩
abbrev main_v212 : Ref sig .tc := ⟨.hbm, 382, rfl⟩
abbrev main_v213 : Ref sig .tc := ⟨.hbm, 383, rfl⟩
abbrev main_v214 : Ref sig .tc := ⟨.hbm, 384, rfl⟩
abbrev main_v215 : Ref sig .tc := ⟨.hbm, 385, rfl⟩
abbrev main_v216 : Ref sig .tc := ⟨.hbm, 386, rfl⟩

abbrev nD : Nat := 1
abbrev τ : Topo := Topo.v7x

variable {F : FTy → Type} [FloatOps F]
-- ==== Proof.Frames.lean ====
/- The frames of the three programs and the ledger of the kernel's one named constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof.Frames

open Idealize.ShloMosaic Idealize.SL.Sem

/-- The kernel ends, its arguments as launched and its counters at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- The reference ends, its arguments as launched; it has no semaphore. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The spacing of the centres, named `4/3`: the ledger's one statement. -/
theorem preserves : Cert.preserves_Kernel_KernelIdeal :=
  IdealRules.named_const.statement Cert.KernelIdeal.κ "spacing" .f32 0x3FAAAAAB#32 ((4 / 3 : ℝ) : EReal) rfl

end Cert.Proof.Frames

end
-- ==== Proof.HostTable.lean ====
/-
  The kernel's host side: what the two regions find in their arrays. The table of a residue holds its five atoms, three
  coordinates each, then its chain and its number.
-/
module

public import proofs.«01_k».proof.Proof.Gen.KernelIdeal.Frame
public import Idealize.ShloMosaic.Lib.StableHlo.RunRead
public import Idealize.ShloMosaic.Lib.Pointwise

@[expose] public section

set_option maxRecDepth 16384

noncomputable section

namespace Cert.Proof.HostTable

open Cert.KernelIdeal Cert.KernelIdeal.Gen
open Idealize.ShloMosaic Idealize.ShloMosaic.TcCoe Idealize.ShloMosaic.StableHlo
open Idealize.SL Idealize.SL.RA Idealize.SL.BI Idealize.SL.Sem Idealize.ShloMosaic.Rounds

/-! ## The terms -/

/-- The first atoms. -/
def nAt (X : FVec Ideal S4x512x4x3 .f32) : FVec Ideal S4x512x3 .f32 :=
  shapeCast S4x512x3 (extractStridedSlice S4x512x1x3 ![0, 0, 0, 0] X slices_S4x512x4x3_S4x512x1x3_0_0_0_0) shapeCasts_S4x512x1x3_S4x512x3
/-- The second atoms. -/
def caAt (X : FVec Ideal S4x512x4x3 .f32) : FVec Ideal S4x512x3 .f32 :=
  shapeCast S4x512x3 (extractStridedSlice S4x512x1x3 ![0, 0, 1, 0] X slices_S4x512x4x3_S4x512x1x3_0_0_1_0) shapeCasts_S4x512x1x3_S4x512x3
/-- The third atoms. -/
def cAt (X : FVec Ideal S4x512x4x3 .f32) : FVec Ideal S4x512x3 .f32 :=
  shapeCast S4x512x3 (extractStridedSlice S4x512x1x3 ![0, 0, 2, 0] X slices_S4x512x4x3_S4x512x1x3_0_0_2_0) shapeCasts_S4x512x1x3_S4x512x3
/-- The fourth atoms. -/
def oAt (X : FVec Ideal S4x512x4x3 .f32) : FVec Ideal S4x512x3 .f32 :=
  shapeCast S4x512x3 (extractStridedSlice S4x512x1x3 ![0, 0, 3, 0] X slices_S4x512x4x3_S4x512x1x3_0_0_3_0) shapeCasts_S4x512x1x3_S4x512x3

/-- First coordinates. -/
def part0 (u : FVec Ideal S4x512x3 .f32) : FVec Ideal S4x512 .f32 :=
  shapeCast S4x512 (extractStridedSlice S4x512x1 ![0, 0, 0] u slices_S4x512x3_S4x512x1_0_0_0) shapeCasts_S4x512x1_S4x512
/-- Second coordinates. -/
def part1 (u : FVec Ideal S4x512x3 .f32) : FVec Ideal S4x512 .f32 :=
  shapeCast S4x512 (extractStridedSlice S4x512x1 ![0, 0, 1] u slices_S4x512x3_S4x512x1_0_0_1) shapeCasts_S4x512x1_S4x512
/-- Third coordinates. -/
def part2 (u : FVec Ideal S4x512x3 .f32) : FVec Ideal S4x512 .f32 :=
  shapeCast S4x512 (extractStridedSlice S4x512x1 ![0, 0, 2] u slices_S4x512x3_S4x512x1_0_0_2) shapeCasts_S4x512x1_S4x512

/-- The cross product, stacked first and transposed after. -/
def crossAt (u v : FVec Ideal S4x512x3 .f32) : FVec Ideal S4x512x3 .f32 :=
  transpose S4x512x3 [1, 2, 0] (concatenate S3x4x512 0
    [⟨S1x4x512, broadcastInDim S1x4x512 ![1, 2] bcast_S4x512_S1x4x512_1_2 (subf (mulf (part1 u) (part2 v)) (mulf (part2 u) (part1 v)))⟩,
     ⟨S1x4x512, broadcastInDim S1x4x512 ![1, 2] bcast_S4x512_S1x4x512_1_2 (subf (mulf (part2 u) (part0 v)) (mulf (part0 u) (part2 v)))⟩,
     ⟨S1x4x512, broadcastInDim S1x4x512 ![1, 2] bcast_S4x512_S1x4x512_1_2 (subf (mulf (part0 u) (part1 v)) (mulf (part1 u) (part0 v)))⟩]
    concatenates_S1x4x512_S1x4x512_S1x4x512_S3x4x512_d0) transposes_S3x4x512_S4x512x3_1_2_0

/-- A number spread over the residues' coordinates. -/
def spread (b : BitVec 32) : FVec Ideal S4x512x3 .f32 := broadcastInDim S4x512x3 ![] bcast_S_S4x512x3 (constant (F := Ideal) S_ .f32 b)

/-- The fifth atom, from the two bonds and their cross product. -/
def cbAt (p u v ca : FVec Ideal S4x512x3 .f32) : FVec Ideal S4x512x3 .f32 :=
  addf (subf (addf (mulf (spread 0xBF152E13#32) p) (mulf (spread 0x3F116A4D#32) u)) (mulf (spread 0x3F0A69A8#32) v)) ca

/-- The table of five atoms, the chain and the residue's number, from its parts. -/
def tableOf (n ca c o cb : FVec Ideal S4x512x3 .f32) (res ch : IVec S4x512 32) : FVec Ideal S4x512x17 .f32 :=
  concatenate S4x512x17 2
    [⟨S4x512x15, concatenate S4x512x15 2 [⟨S4x512x3, n⟩, ⟨S4x512x3, ca⟩, ⟨S4x512x3, c⟩, ⟨S4x512x3, o⟩, ⟨S4x512x3, cb⟩]
        concatenates_S4x512x3_S4x512x3_S4x512x3_S4x512x3_S4x512x3_S4x512x15_d2⟩,
     ⟨S4x512x1, sitofp .f32 (broadcastInDim S4x512x1 ![0, 1] bcast_S4x512_S4x512x1_0_1 ch)⟩,
     ⟨S4x512x1, sitofp .f32 (broadcastInDim S4x512x1 ![0, 1] bcast_S4x512_S4x512x1_0_1 res)⟩]
    concatenates_S4x512x15_S4x512x1_S4x512x1_S4x512x17_d2

/-! ## The lines -/

section Lines

variable (V : Valuation τ sig (Elt Ideal))

/-- The first part of the host code leaves the first atoms in their buffer. -/
theorem line0_v1 : StableHlo.after hostOps0 V (Proc.devRef .tc main_v1) = nAt (V (Proc.devRef .tc main_arg0)) := by
  after_reads_simp; rfl
/-- It leaves the second atoms in theirs. -/
theorem line0_v3 : StableHlo.after hostOps0 V (Proc.devRef .tc main_v3) = caAt (V (Proc.devRef .tc main_arg0)) := by
  after_reads_simp; rfl
/-- It leaves the third atoms in theirs. -/
theorem line0_v5 : StableHlo.after hostOps0 V (Proc.devRef .tc main_v5) = cAt (V (Proc.devRef .tc main_arg0)) := by
  after_reads_simp; rfl
/-- It leaves the fourth atoms in theirs. -/
theorem line0_v7 : StableHlo.after hostOps0 V (Proc.devRef .tc main_v7) = oAt (V (Proc.devRef .tc main_arg0)) := by
  after_reads_simp; rfl
/-- It leaves the first difference of atoms in its buffer. -/
theorem line0_v8 : StableHlo.after hostOps0 V (Proc.devRef .tc main_v8)
    = subf (caAt (V (Proc.devRef .tc main_arg0))) (nAt (V (Proc.devRef .tc main_arg0))) := by
  after_reads_simp; rfl
/-- It leaves the second difference of atoms in its buffer. -/
theorem line0_v9 : StableHlo.after hostOps0 V (Proc.devRef .tc main_v9)
    = subf (cAt (V (Proc.devRef .tc main_arg0))) (caAt (V (Proc.devRef .tc main_arg0))) := by
  after_reads_simp; rfl

/-- The first coordinate of the cross product, before the coordinates are stacked. -/
theorem line1_v21 : upto hostOps0_1 V 24 (Proc.devRef .tc main_call0_v21)
    = broadcastInDim S1x4x512 ![1, 2] bcast_S4x512_S1x4x512_1_2 (subf (mulf (part1 (V (Proc.devRef .tc main_v8))) (part2 (V (Proc.devRef .tc main_v9))))
        (mulf (part2 (V (Proc.devRef .tc main_v8))) (part1 (V (Proc.devRef .tc main_v9))))) := by
  after_reads_simp; rfl
/-- Its second coordinate. -/
theorem line1_v22 : upto hostOps0_1 V 24 (Proc.devRef .tc main_call0_v22)
    = broadcastInDim S1x4x512 ![1, 2] bcast_S4x512_S1x4x512_1_2 (subf (mulf (part2 (V (Proc.devRef .tc main_v8))) (part0 (V (Proc.devRef .tc main_v9))))
        (mulf (part0 (V (Proc.devRef .tc main_v8))) (part2 (V (Proc.devRef .tc main_v9))))) := by
  after_reads_simp; rfl
/-- Its third coordinate. -/
theorem line1_v23 : upto hostOps0_1 V 24 (Proc.devRef .tc main_call0_v23)
    = broadcastInDim S1x4x512 ![1, 2] bcast_S4x512_S1x4x512_1_2 (subf (mulf (part0 (V (Proc.devRef .tc main_v8))) (part1 (V (Proc.devRef .tc main_v9))))
        (mulf (part1 (V (Proc.devRef .tc main_v8))) (part0 (V (Proc.devRef .tc main_v9))))) := by
  after_reads_simp; rfl

/-- The last step of the cross product stacks the three coordinates. -/
theorem line1_stack (U : Valuation τ sig (Elt Ideal)) (hU : upto hostOps0_1 V 24 = U) :
    StableHlo.after hostOps0_1 V (Proc.devRef .tc main_v10)
      = transpose S4x512x3 [1, 2, 0] (concatenate S3x4x512 0
          [⟨S1x4x512, U (Proc.devRef .tc main_call0_v21)⟩, ⟨S1x4x512, U (Proc.devRef .tc main_call0_v22)⟩,
           ⟨S1x4x512, U (Proc.devRef .tc main_call0_v23)⟩]
          concatenates_S1x4x512_S1x4x512_S1x4x512_S3x4x512_d0) transposes_S3x4x512_S4x512x3_1_2_0 := by
  after_reads_simp
  rw [hU]
  rfl

/-- The second part of the host code leaves the cross product in its buffer. -/
theorem line1_v10 : StableHlo.after hostOps0_1 V (Proc.devRef .tc main_v10)
    = crossAt (V (Proc.devRef .tc main_v8)) (V (Proc.devRef .tc main_v9)) := by
  rw [line1_stack V _ rfl, line1_v21, line1_v22, line1_v23]; rfl

/-- The third part leaves the transposed second atoms in their buffer. -/
theorem line2_v26 : StableHlo.after hostOps0_2 V (Proc.devRef .tc main_v26)
    = transpose S4x3x512 [0, 2, 1] (V (Proc.devRef .tc main_v3)) transposes_S4x512x3_S4x3x512_0_2_1 := by
  after_reads_simp

/-- The fifth atoms, before the table is put together. -/
theorem line2_v19 : upto hostOps0_2 V 12 (Proc.devRef .tc main_v19)
    = cbAt (V (Proc.devRef .tc main_v10)) (V (Proc.devRef .tc main_v8)) (V (Proc.devRef .tc main_v9)) (V (Proc.devRef .tc main_v3)) := by
  after_reads_simp; rfl

/-- The five atoms side by side, before the table is put together. -/
theorem line2_v20 : upto hostOps0_2 V 17 (Proc.devRef .tc main_v20)
    = concatenate S4x512x15 2 [⟨S4x512x3, V (Proc.devRef .tc main_v1)⟩, ⟨S4x512x3, V (Proc.devRef .tc main_v3)⟩,
        ⟨S4x512x3, V (Proc.devRef .tc main_v5)⟩, ⟨S4x512x3, V (Proc.devRef .tc main_v7)⟩,
        ⟨S4x512x3, upto hostOps0_2 V 12 (Proc.devRef .tc main_v19)⟩]
        concatenates_S4x512x3_S4x512x3_S4x512x3_S4x512x3_S4x512x3_S4x512x15_d2 := by
  after_reads_simp; rfl

/-- The chains as a column of numbers. -/
theorem line2_v22 : upto hostOps0_2 V 17 (Proc.devRef .tc main_v22)
    = sitofp (F := Ideal) .f32 (broadcastInDim S4x512x1 ![0, 1] bcast_S4x512_S4x512x1_0_1 (V (Proc.devRef .tc main_arg3))) := by
  after_reads_simp
/-- The residues' numbers as a column of numbers. -/
theorem line2_v24 : upto hostOps0_2 V 17 (Proc.devRef .tc main_v24)
    = sitofp (F := Ideal) .f32 (broadcastInDim S4x512x1 ![0, 1] bcast_S4x512_S4x512x1_0_1 (V (Proc.devRef .tc main_arg2))) := by
  after_reads_simp

/-- The last step puts the atoms, the chains and the residues' numbers side by side. -/
theorem line2_stack : StableHlo.after hostOps0_2 V (Proc.devRef .tc main_v25) = concatenate S4x512x17 2
      [⟨S4x512x15, upto hostOps0_2 V 17 (Proc.devRef .tc main_v20)⟩, ⟨S4x512x1, upto hostOps0_2 V 17 (Proc.devRef .tc main_v22)⟩,
       ⟨S4x512x1, upto hostOps0_2 V 17 (Proc.devRef .tc main_v24)⟩]
      concatenates_S4x512x15_S4x512x1_S4x512x1_S4x512x17_d2 := by
  after_reads_simp; rfl

/-- The third part leaves the table in its buffer. -/
theorem line2_v25 : StableHlo.after hostOps0_2 V (Proc.devRef .tc main_v25)
    = tableOf (V (Proc.devRef .tc main_v1)) (V (Proc.devRef .tc main_v3)) (V (Proc.devRef .tc main_v5)) (V (Proc.devRef .tc main_v7))
        (cbAt (V (Proc.devRef .tc main_v10)) (V (Proc.devRef .tc main_v8)) (V (Proc.devRef .tc main_v9)) (V (Proc.devRef .tc main_v3)))
        (V (Proc.devRef .tc main_arg2)) (V (Proc.devRef .tc main_arg3)) := by
  rw [line2_stack, line2_v20, line2_v22, line2_v24, line2_v19]; rfl

end Lines

/-! ## At the regions' entries -/

section Entries

variable (m : (ℓ : Loc nD τ sig) → Buf (Elt Ideal) ℓ) (ρ : Dev nD → PrngReg) (c : Dev nD)

/-- The fifth atom from the atoms' array. -/
def cbOf (X : FVec Ideal S4x512x4x3 .f32) : FVec Ideal S4x512x3 .f32 :=
  cbAt (crossAt (subf (caAt X) (nAt X)) (subf (cAt X) (caAt X))) (subf (caAt X) (nAt X)) (subf (cAt X) (caAt X)) (caAt X)

/-- The residues' table. -/
def table (X : FVec Ideal S4x512x4x3 .f32) (res ch : IVec S4x512 32) : FVec Ideal S4x512x17 .f32 :=
  tableOf (nAt X) (caAt X) (cAt X) (oAt X) (cbOf X) res ch

/-- At launch a buffer holds what the memory holds. -/
theorem W0_read (r : Ref sig .tc) : W0 m ρ c (Proc.devRef .tc r) = m ((c.tc : Thread nD τ).loc r) := rfl

/-- At the first call the second atoms' buffer holds the second atoms. -/
theorem V3_ca : V3 m ρ c main_v3 = caAt (m ((c.tc : Thread nD τ).loc main_arg0)) := by
  show W3 m ρ c _ = _
  rw [W3_of m ρ c main_v3 (by decide), W2_of m ρ c main_v3 (by decide)]
  exact line0_v3 _

/-- At the first call the transposed buffer holds the second atoms transposed. -/
theorem V3_caT : V3 m ρ c main_v26
    = transpose S4x3x512 [0, 2, 1] (caAt (m ((c.tc : Thread nD τ).loc main_arg0))) transposes_S4x512x3_S4x3x512_0_2_1 := by
  show W3 m ρ c _ = _
  refine (line2_v26 _).trans ?_
  rw [W2_of m ρ c main_v3 (by decide)]
  exact congrArg (transpose S4x3x512 [0, 2, 1] · transposes_S4x512x3_S4x3x512_0_2_1) (line0_v3 _)

/-- At the first call the table's buffer holds the table of the arguments. -/
theorem W3_table : W3 m ρ c (Proc.devRef .tc main_v25) = table (m ((c.tc : Thread nD τ).loc main_arg0))
    (m ((c.tc : Thread nD τ).loc main_arg2)) (m ((c.tc : Thread nD τ).loc main_arg3)) := by
  refine (line2_v25 _).trans ?_
  rw [W2_of m ρ c main_v1 (by decide), W2_of m ρ c main_v3 (by decide), W2_of m ρ c main_v5 (by decide),
    W2_of m ρ c main_v7 (by decide), W2_of m ρ c main_v8 (by decide), W2_of m ρ c main_v9 (by decide),
    W2_of m ρ c main_arg2 (by decide), W2_of m ρ c main_arg3 (by decide),
    W1_of m ρ c main_arg2 (by decide), W1_of m ρ c main_arg3 (by decide),
    show W2 m ρ c (Proc.devRef .tc main_v10) = _ from line1_v10 _,
    show W1 m ρ c (Proc.devRef .tc main_v1) = _ from line0_v1 _, show W1 m ρ c (Proc.devRef .tc main_v3) = _ from line0_v3 _,
    show W1 m ρ c (Proc.devRef .tc main_v5) = _ from line0_v5 _, show W1 m ρ c (Proc.devRef .tc main_v7) = _ from line0_v7 _,
    show W1 m ρ c (Proc.devRef .tc main_v8) = _ from line0_v8 _, show W1 m ρ c (Proc.devRef .tc main_v9) = _ from line0_v9 _]
  rfl

end Entries

/-! ## The table at an index -/

/-- Coordinate `k` of the fifth atom of residue `l`, from the atoms' array at that residue. -/
def cbCoord (x : Fin 4 → Fin 3 → EReal) (k : Fin 3) : EReal :=
  let u := fun d => x 1 d - x 0 d
  let v := fun d => x 2 d - x 1 d
  let w : Fin 3 → EReal := ![u 1 * v 2 - u 2 * v 1, u 2 * v 0 - u 0 * v 2, u 0 * v 1 - u 1 * v 0]
  Ideal.ofBits .f32 0xBF152E13#32 * w k + Ideal.ofBits .f32 0x3F116A4D#32 * u k - Ideal.ofBits .f32 0x3F0A69A8#32 * v k + x 1 k

/-- Coordinate `k` of atom `a` of residue `l` of batch `b`. -/
def atom (X : FVec Ideal S4x512x4x3 .f32) (b : Fin 4) (l : Fin 512) (a : Fin 5) (k : Fin 3) : EReal :=
  if h : a.val < 4 then X (ix4 b l ⟨a.val, h⟩ k) else cbCoord (fun a k => X (ix4 b l a k)) k

/-- A coordinate of a first atom. -/
theorem nAt_apply (X : FVec Ideal S4x512x4x3 .f32) (b : Fin 4) (l : Fin 512) (k : Fin 3) : nAt X (ix3 b l k) = X (ix4 b l 0 k) := by
  pointwise [nAt]
/-- A coordinate of a second atom. -/
theorem caAt_apply (X : FVec Ideal S4x512x4x3 .f32) (b : Fin 4) (l : Fin 512) (k : Fin 3) : caAt X (ix3 b l k) = X (ix4 b l 1 k) := by
  pointwise [caAt]
/-- A coordinate of a third atom. -/
theorem cAt_apply (X : FVec Ideal S4x512x4x3 .f32) (b : Fin 4) (l : Fin 512) (k : Fin 3) : cAt X (ix3 b l k) = X (ix4 b l 2 k) := by
  pointwise [cAt]
/-- A coordinate of a fourth atom. -/
theorem oAt_apply (X : FVec Ideal S4x512x4x3 .f32) (b : Fin 4) (l : Fin 512) (k : Fin 3) : oAt X (ix3 b l k) = X (ix4 b l 3 k) := by
  pointwise [oAt]

/-- A coordinate of a fifth atom. -/
theorem cbOf_apply (X : FVec Ideal S4x512x4x3 .f32) (b : Fin 4) (l : Fin 512) (k : Fin 3) :
    cbOf X (ix3 b l k) = cbCoord (fun a k => X (ix4 b l a k)) k := by
  rcases (by omega : k = 0 ∨ k = 1 ∨ k = 2) with rfl | rfl | rfl
  all_goals
    pointwise [cbOf, cbAt, crossAt, part0, part1, part2, spread, caAt_apply, nAt_apply, cAt_apply]
    rfl

/-- The first fifteen columns of a table row are the coordinates of the five atoms. -/
theorem table_atom (X : FVec Ideal S4x512x4x3 .f32) (res ch : IVec S4x512 32) (b : Fin 4) (l : Fin 512) (a : Fin 5) (k : Fin 3)
    (j : Fin 17) (hj : j.val = 3 * a.val + k.val) : table X res ch (ix3 b l j) = atom X b l a k := by
  have hk := k.isLt
  fin_vals a with ha
  all_goals
    pointwise [table, tableOf]
    split_ifs
    all_goals first
      | (exfalso; omega)
      | (unfold atom
         first
          | rw [dif_pos (by omega)]
          | rw [dif_neg (by omega), cbOf_apply]
         first
          | rw [nAt_apply]
          | rw [caAt_apply]
          | rw [cAt_apply]
          | rw [oAt_apply]
          | skip
         congr 1
         first
          | (apply Fin.ext; dsimp only; omega)
          | (congr 1 <;> apply Fin.ext <;> dsimp only <;> omega))

/-- The next column of a table row is the chain. -/
theorem table_chain (X : FVec Ideal S4x512x4x3 .f32) (res ch : IVec S4x512 32) (b : Fin 4) (l : Fin 512) :
    table X res ch (ix3 b l 15) = (((ch (ix2 b l)).toInt : ℝ) : EReal) := by
  pointwise [table, tableOf]
  rfl

/-- The last column of a table row is the residue's number. -/
theorem table_res (X : FVec Ideal S4x512x4x3 .f32) (res ch : IVec S4x512 32) (b : Fin 4) (l : Fin 512) :
    table X res ch (ix3 b l 16) = (((res (ix2 b l)).toInt : ℝ) : EReal) := by
  pointwise [table, tableOf]
  rfl

end Cert.Proof.HostTable
-- ==== Proof.Nearest.lean ====
/-
  The nearest positions of a row: taking the least entry over and over, at its first position, and marking the place
  with a bound above every entry, lists the positions in the order of a stable sort by the entries.
-/
module

public import Idealize.ShloMosaic.Lib.SortPrefix

@[expose] public section

namespace Cert.Proof.Nearest

open Idealize.ShloMosaic

variable {n : ℕ} {α : Type} [LinearOrder α]

/-- Position `p` is the first at which the row `D` is least. -/
def First (D : Fin n → α) (p : Fin n) : Prop := ∀ k, D p ≤ D k ∧ (k < p → D p < D k)

/-- A row that is not empty has a first least position. -/
theorem exists_first [NeZero n] (D : Fin n → α) : ∃ p, First D p := by
  obtain ⟨q, -, hq⟩ := Finset.exists_min_image Finset.univ D ⟨(0 : Fin n), Finset.mem_univ _⟩
  have hne : (Finset.univ.filter fun k => D k ≤ D q).Nonempty := ⟨q, by simp⟩
  refine ⟨(Finset.univ.filter fun k => D k ≤ D q).min' hne, fun k => ?_⟩
  have hm := Finset.min'_mem _ hne
  rw [Finset.mem_filter] at hm
  refine ⟨hm.2.trans (hq k (Finset.mem_univ _)), fun hk => ?_⟩
  by_contra hc
  exact absurd (Finset.min'_le _ k (Finset.mem_filter.mpr ⟨Finset.mem_univ _, (not_lt.mp hc).trans hm.2⟩)) (not_le.mpr hk)

/-- Two first least positions of one row are equal. -/
theorem First.unique {D : Fin n → α} {p q : Fin n} (hp : First D p) (hq : First D q) : p = q := by
  rcases lt_trichotomy p q with h | h | h
  · exact absurd ((hq p).2 h) (not_lt.mpr (hp q).1)
  · exact h
  · exact absurd ((hp q).2 h) (not_lt.mpr (hq p).1)

/-- The first least position of a row. -/
noncomputable def least [NeZero n] (D : Fin n → α) : Fin n := (exists_first D).choose

/-- The first position of the least value is one. -/
theorem first_least [NeZero n] (D : Fin n → α) : First D (least D) := (exists_first D).choose_spec

/-- The row after `t` rounds: each round writes `M` at the row's first least position. -/
noncomputable def rowAfter [NeZero n] (M : α) (D : Fin n → α) : ℕ → Fin n → α
  | 0 => D
  | t + 1 => fun k => if k = least (rowAfter M D t) then M else rowAfter M D t k

/-- One step more marks the first position of the least value. -/
theorem rowAfter_succ [NeZero n] (M : α) (D : Fin n → α) (t : ℕ) (k : Fin n) :
    rowAfter M D (t + 1) k = if k = least (rowAfter M D t) then M else rowAfter M D t k := rfl

/-- The position that round `t` takes. -/
noncomputable def pick [NeZero n] (M : α) (D : Fin n → α) (t : ℕ) : Fin n := least (rowAfter M D t)

/-- The row after `t` rounds is `M` at the positions taken and the row elsewhere. -/
theorem rowAfter_apply [NeZero n] (M : α) (D : Fin n → α) (t : ℕ) (k : Fin n) :
    rowAfter M D t k = if ∃ s < t, pick M D s = k then M else D k := by
  classical
  induction t with
  | zero => simp [rowAfter]
  | succ t ih =>
    show (if k = pick M D t then M else rowAfter M D t k) = _
    by_cases h : k = pick M D t
    · rw [if_pos h, if_pos ⟨t, Nat.lt_succ_self t, h.symm⟩]
    · rw [if_neg h, ih]
      congr 1
      refine propext ⟨fun ⟨s, hs, e⟩ => ⟨s, by omega, e⟩, fun ⟨s, hs, e⟩ => ⟨s, ?_, e⟩⟩
      rcases Nat.lt_succ_iff_lt_or_eq.mp hs with h' | h'
      · exact h'
      · exact absurd (h' ▸ e).symm h

section

variable [NeZero n] {M : α} {D : Fin n → α} (hM : ∀ k, D k < M)
include hM

/-- A round before the row is used up takes a position no earlier round took. -/
theorem pick_ne (t : ℕ) (ht : t < n) (s : ℕ) (hs : s < t) : pick M D s ≠ pick M D t := by
  classical
  obtain ⟨k, hk⟩ : ∃ k, k ∉ (Finset.range t).image (pick M D) := by
    by_contra hc
    push Not at hc
    have h1 : (Finset.univ : Finset (Fin n)) ⊆ (Finset.range t).image (pick M D) := fun k _ => hc k
    have h2 := (Finset.card_le_card h1).trans Finset.card_image_le
    rw [Finset.card_univ, Fintype.card_fin, Finset.card_range] at h2
    omega
  have hk' : ¬ ∃ s < t, pick M D s = k := fun ⟨s, hs, e⟩ => hk (Finset.mem_image.mpr ⟨s, Finset.mem_range.mpr hs, e⟩)
  intro e
  have h := (first_least (rowAfter M D t) k).1
  rw [show least (rowAfter M D t) = pick M D t from rfl, rowAfter_apply, rowAfter_apply, if_pos ⟨s, hs, e⟩, if_neg hk'] at h
  exact absurd (hM k) (not_lt.mpr h)

/-- The value at the position a round takes is the row's own. -/
theorem rowAfter_pick (t : ℕ) (ht : t < n) : rowAfter M D t (pick M D t) = D (pick M D t) := by
  rw [rowAfter_apply, if_neg]
  rintro ⟨s, hs, e⟩
  exact pick_ne hM t ht s hs e

/-- A round's position comes first among the positions that no round up to it has taken. -/
theorem pick_first (t : ℕ) (ht : t < n) (p : Fin n) (hp : ∀ s < t, pick M D s ≠ p) :
    D (pick M D t) ≤ D p ∧ (p < pick M D t → D (pick M D t) < D p) := by
  have h := first_least (rowAfter M D t) p
  have e : rowAfter M D t p = D p := by
    rw [rowAfter_apply, if_neg]; rintro ⟨s, hs, e⟩; exact hp s hs e
  rw [show least (rowAfter M D t) = pick M D t from rfl, rowAfter_pick hM t ht, e] at h
  exact h

end

/-- On a list of increasing positions, the stable sort by the entries alone is the sort by the entries and then the
    position. -/
theorem stableSort_key_position (D : Fin n → α) (l : List (Fin n)) (hl : l.Pairwise (· < ·)) :
    stableSort (fun a b => decide (D a < D b)) l
      = stableSort (fun a b => decide (D a < D b) || (decide (D a = D b) && decide (a < b))) l := by
  induction l with
  | nil => rfl
  | cons a l ih =>
    rw [List.pairwise_cons] at hl
    unfold stableSort
    rw [ih hl.2]
    have hm : ∀ b ∈ stableSort (fun a b => decide (D a < D b) || (decide (D a = D b) && decide (a < b))) l, a < b :=
      fun b hb => hl.1 b ((perm_stableSort _ l).mem_iff.mp hb)
    generalize stableSort (fun a b => decide (D a < D b) || (decide (D a = D b) && decide (a < b))) l = m at hm
    induction m with
    | nil => rfl
    | cons b m ihm =>
      have hb : decide (b < a) = false := decide_eq_false (not_lt.mpr (hm b (by simp)).le)
      unfold insertBefore
      rw [ihm fun c hc => hm c (List.mem_cons_of_mem _ hc)]
      simp only [hb, Bool.and_false, Bool.or_false]

/-- The stable sort of a row's positions by its entries begins with the positions the rounds take. -/
theorem sortedFrom_eq_pick [NeZero n] {M : α} {D : Fin n → α} (hM : ∀ k, D k < M) {k : ℕ} (hk : k ≤ n) (t : Fin k) :
    sortedFrom (fun a b => decide (D a < D b)) (t.castLE hk) = pick M D t := by
  have hB := StrictTotalBefore.of_key_then_position (n := n) (fun a b : α => decide (a < b)) D (fun a => by simp)
    (fun a b c h h' => by
      rw [decide_eq_true_eq] at h h' ⊢
      exact h.trans h')
    (fun a b => by
      rw [decide_eq_true_eq, decide_eq_true_eq]
      exact lt_trichotomy a b)
  have hfirst : ∀ (i : Fin k) (p : Fin n), (∀ s < i.val, pick M D s ≠ p) →
      (decide (D p < D (pick M D i)) || (decide (D p = D (pick M D i)) && decide (p < pick M D i))) = false := by
    intro i p hp
    obtain ⟨h1, h2⟩ := pick_first hM i.val (i.isLt.trans_le hk) p hp
    rw [decide_eq_false (not_lt.mpr h1), Bool.false_or]
    by_cases h : p < pick M D i
    · rw [decide_eq_false (ne_of_gt (h2 h)), Bool.false_and]
    · rw [decide_eq_false h, Bool.and_false]
  have h := hB.sortedFrom_eq_of_prefix hk (fun i : Fin k => pick M D i.val)
    (fun i j e => by
      rcases lt_trichotomy i.val j.val with h | h | h
      · exact absurd e (pick_ne hM j.val (j.isLt.trans_le hk) i.val h)
      · exact Fin.ext h
      · exact absurd e.symm (pick_ne hM i.val (i.isLt.trans_le hk) j.val h))
    (fun i j hij => hfirst i _ fun s hs => pick_ne hM j.val (j.isLt.trans_le hk) s (hs.trans hij))
    (fun i p hp => hfirst i p fun s hs => hp ⟨s, hs.trans i.isLt⟩) t
  have e : sortPositions n (fun a b => decide (D a < D b)) = sortPositions n _ :=
    stableSort_key_position D _ (List.pairwise_lt_finRange n)
  rw [← h]
  simp only [sortedFrom, List.get_eq_getElem, Fin.val_cast, e]

end Cert.Proof.Nearest
-- ==== Proof.KnnBlock.lean ====
/-
  What the neighbour kernel leaves in its two blocks: column `j` of a row holds the distance and the position that
  round `j` of the row's repeated minimum takes (Nearest.lean).
-/
module

public import proofs.«01_k».proof.Proof.Gen.KernelIdeal.Frame
public import proofs.«01_k».proof.Proof.Nearest
public import Idealize.ShloMosaic.Lib.Pointwise
public import Idealize.ShloMosaic.Lib.VecWindow

@[expose] public section

noncomputable section

namespace Cert.Proof.KnnBlock

open Cert.KernelIdeal Cert.KernelIdeal.Gen
open Idealize.ShloMosaic Idealize.ShloMosaic.TcCoe

/-- The value that marks a taken position: the greatest finite f32. -/
abbrev big : EReal := Ideal.ofBits .f32 0x7F7FFFFF#32

/-- The state of the rounds: distances left, nearest distances found, nearest positions found. -/
abbrev State := FVec Ideal S512x512 .f32 × FVec Ideal S512x64 .f32 × IVec S512x64 32

/-- One round. -/
def round (t : Fin k0_t1_loop.trips) (s : State) : State :=
  (k0_pay7 s.1, k0_pay9 t s.1 s.2.1, k0_pay10 t s.1 s.2.2)

/-- What a round leaves of the distances. -/
theorem round_left (t : Fin k0_t1_loop.trips) (s : State) : (round t s).1 = k0_pay7 s.1 := by simp only [round]
/-- What a round leaves of the distances found. -/
theorem round_dist (t : Fin k0_t1_loop.trips) (s : State) : (round t s).2.1 = k0_pay9 t s.1 s.2.1 := by simp only [round]
/-- What a round leaves of the positions found. -/
theorem round_pos (t : Fin k0_t1_loop.trips) (s : State) : (round t s).2.2 = k0_pay10 t s.1 s.2.2 := by simp only [round]

/-- The state after every round, from a block of points and a block of their coordinates' columns. -/
def final (x0 : Vec Ideal S1x512x3 .f32) (x1 : Vec Ideal S1x3x512 .f32) : State :=
  Scf.fold round (k0_pay2 x0 x1, k0_pay3, k0_pay4)

/-! ## The blocks are the final state's two results -/

section Blocks

variable (c : Dev nD) (i : grid0.Coords) (a1 : Memref sig .tc .vmem S1x512x3 .f32) (h1 : a1.IsWhole)
  (a2 : Memref sig .tc .vmem S1x3x512 .f32) (h2 : a2.IsWhole) (a3 : Memref sig .tc .vmem S1x512x64 .f32) (h3 : a3.IsWhole)
  (a4 : Memref sig .tc .vmem S1x512x64 .i32) (h4 : a4.IsWhole) (x0 : Vec Ideal S1x512x3 .f32) (x1 : Vec Ideal S1x3x512 .f32)

/-- The block's loop ends in the state of 64 rounds. -/
theorem sl_r_eq : kernelRun0_A.sl.r (F := Ideal) c a1 h1 a2 h2 x0 x1 = final x0 x1 := by
  delta kernelRun0_A.sl.r
  unfold final
  rw [View.readAt_full, View.readAt_full, h1.read_unread, h2.read_unread]
  rfl

/-- The positions the block stores are those of that state. -/
theorem sl_r_1_eq : kernelRun0_A.sl.r_1 (F := Ideal) c a1 h1 a2 h2 x0 x1 = (final x0 x1).2.2 := by
  delta kernelRun0_A.sl.r_1
  rw [sl_r_eq]

/-- The block of distances. -/
theorem out2_eq : out0_A_2 (F := Ideal) c i a1 h1 a2 h2 a3 h3 a4 h4 x0 x1 = k0_pay11 (final x0 x1).2.1 := by
  unfold out0_A_2 kernelRun0_A
  dsimp only
  rw [sl_r_eq]
  exact View.read_writes_full VO0_2 _ inb_S1x512x64_S1x512x64_0_0_0 _ _

/-- The block of positions. -/
theorem out3_eq : out0_A_3 (F := Ideal) c i a1 h1 a2 h2 a3 h3 a4 h4 x0 x1 = k0_pay1 (final x0 x1).2.2 := by
  unfold out0_A_3 kernelRun0_A
  dsimp only
  rw [sl_r_1_eq]
  exact View.read_writes_full VO0_3 _ inb_S1x512x64_S1x512x64_0_0_0 _ _

end Blocks

/-! ## One round at a row -/

/-- The least of a row, folded from `⊤`, is its entry at the first least position. -/
theorem fold_min_eq {n : ℕ} {f : Fin n → EReal} {p : Fin n} (hp : Nearest.First f p) :
    Finset.fold min (⊤ : EReal) f Finset.univ = f p :=
  le_antisymm ((Finset.fold_min_le _).mpr (.inr ⟨p, Finset.mem_univ _, le_rfl⟩))
    ((Finset.le_fold_min _).mpr ⟨le_top, fun k _ => (hp k).1⟩)

/-- The signed lesser of two words, as integers. -/
theorem toInt_minsi (x y : BitVec 32) : (IntOp.minsi x y).toInt = min x.toInt y.toInt := by
  unfold IntOp.minsi
  split
  · rename_i h
    rw [BitVec.slt_iff_toInt_lt] at h
    rw [min_eq_left (by omega)]
  · rename_i h
    rw [BitVec.slt_iff_toInt_lt] at h
    rw [min_eq_right (by omega)]

/-- The word of a number below 512 is that number, signed. -/
theorem toInt_ofNat_lt (k : ℕ) (hk : k < 512) : (BitVec.ofNat 32 k).toInt = k := by
  rw [BitVec.toInt_ofNat']
  exact Int.bmod_eq_of_le (by omega) (by omega)

/-- The least position, as a word, among those at which a row is at most its least entry. -/
theorem fold_minsi_eq {f : Fin 512 → EReal} {p : Fin 512} (hp : Nearest.First f p) :
    Finset.fold IntOp.minsi 2147483647#32 (fun k : Fin 512 => if f k ≤ f p then BitVec.ofNat 32 k.val else 512#32)
      Finset.univ = BitVec.ofNat 32 p.val := by
  apply BitVec.eq_of_toInt_eq
  rw [← Finset.fold_hom (op' := min) (m := BitVec.toInt) toInt_minsi, toInt_ofNat_lt _ p.isLt]
  refine le_antisymm ((Finset.fold_min_le _).mpr (.inr ⟨p, Finset.mem_univ _, ?_⟩)) ((Finset.le_fold_min _).mpr ⟨?_, fun k _ => ?_⟩)
  · rw [if_pos le_rfl, toInt_ofNat_lt _ p.isLt]
  · have := p.isLt
    rw [show (2147483647#32).toInt = 2147483647 from by decide]
    omega
  · split
    · rename_i h
      rw [toInt_ofNat_lt _ k.isLt]
      by_contra hc
      exact absurd ((hp k).2 (by rw [Fin.lt_def]; omega)) (not_lt.mpr h)
    · have := p.isLt
      rw [show (512#32).toInt = 512 from by decide]
      omega

/-- The word of the infinite constant is the greatest extended real. -/
theorem inf_bits : Ideal.ofBits .f32 2139095040#32 = (⊤ : EReal) := by
  simp [Ideal.ofBits, Ideal.ieee]

/-- The least distance of a row. -/
theorem pay5_apply (D : FVec Ideal S512x512 .f32) (r : Fin 512) (z : Fin 1) :
    k0_pay5 D (ix2 r z) = D (ix2 r (Nearest.least fun k => D (ix2 r k))) := by
  pointwise [k0_pay5]
  rw [inf_bits]
  exact fold_min_eq (Nearest.first_least fun k : Fin 512 => D (ix2 r k))

/-- The first position of the least distance of a row. -/
theorem pay6_apply (D : FVec Ideal S512x512 .f32) (r : Fin 512) (z : Fin 1) :
    k0_pay6 D (ix2 r z) = BitVec.ofNat 32 (Nearest.least fun k => D (ix2 r k)).val := by
  pointwise [k0_pay6]
  simp only [pay5_apply]
  exact fold_minsi_eq (Nearest.first_least fun k : Fin 512 => D (ix2 r k))

/-- The words of two numbers below 512 are equal just when the numbers are. -/
theorem ofNat_eq_iff (a b : ℕ) (ha : a < 512) (hb : b < 512) : BitVec.ofNat 32 a = BitVec.ofNat 32 b ↔ a = b := by
  rw [← BitVec.toNat_inj, BitVec.toNat_ofNat, BitVec.toNat_ofNat, Nat.mod_eq_of_lt (by omega), Nat.mod_eq_of_lt (by omega)]

/-- A choice by the equality of two such words is a choice by the equality of the numbers. -/
theorem select_cmpi_eq {α : Type} (a b : ℕ) (ha : a < 512) (hb : b < 512) (x y : α) :
    Scalar.select (IntOp.cmpi .eq (BitVec.ofNat 32 a) (BitVec.ofNat 32 b)) x y = if a = b then x else y := by
  by_cases h : a = b
  · subst h
    simp [IntOp.cmpi, Scalar.select]
  · have hb' : (BitVec.ofNat 32 a == BitVec.ofNat 32 b) = false :=
      beq_eq_false_iff_ne.mpr fun e => h ((ofNat_eq_iff a b ha hb).mp e)
    simp [IntOp.cmpi, Scalar.select, hb', h]

/-- A round marks the first position of the least distance with the greatest number. -/
theorem pay7_apply (D : FVec Ideal S512x512 .f32) (r k : Fin 512) :
    k0_pay7 D (ix2 r k) = if k = Nearest.least (fun k => D (ix2 r k)) then big else D (ix2 r k) := by
  pointwise [k0_pay7]
  rw [pay6_apply, select_cmpi_eq _ _ k.isLt (Fin.isLt _)]
  simp only [Fin.ext_iff]

/-- Round `t` counts as the word of `t`. -/
theorem iv_eq (t : ℕ) : Scf.iv 0#32 1#32 t = BitVec.ofNat 32 t := by
  simp [Scf.iv]

/-- There are 64 rounds. -/
theorem trips_eq : k0_t1_loop.trips = 64 := by decide

/-- Round `t` writes the least distance into column `t`. -/
theorem pay9_apply (t : Fin k0_t1_loop.trips) (D : FVec Ideal S512x512 .f32) (dn : FVec Ideal S512x64 .f32) (r : Fin 512) (j : Fin 64) :
    k0_pay9 t D dn (ix2 r j) = if j.val = t.val then D (ix2 r (Nearest.least fun k => D (ix2 r k))) else dn (ix2 r j) := by
  have ht : t.val < 64 := t.isLt.trans_eq trips_eq
  pointwise [k0_pay9, k0_pay8]
  rw [pay5_apply, iv_eq, select_cmpi_eq _ _ (by omega) (by omega)]

/-- Round `t` writes the first position of the least distance into column `t`. -/
theorem pay10_apply (t : Fin k0_t1_loop.trips) (D : FVec Ideal S512x512 .f32) (ei : IVec S512x64 32) (r : Fin 512) (j : Fin 64) :
    k0_pay10 t D ei (ix2 r j) = if j.val = t.val then BitVec.ofNat 32 (Nearest.least fun k => D (ix2 r k)).val else ei (ix2 r j) := by
  have ht : t.val < 64 := t.isLt.trans_eq trips_eq
  pointwise [k0_pay10, k0_pay8]
  rw [pay6_apply, iv_eq, select_cmpi_eq _ _ (by omega) (by omega)]

/-! ## Every round -/

/-- A fold over the trips of a counted loop keeps an invariant indexed by the trips done. -/
theorem foldl_finRange_inv {σ : Type} (P : ℕ → σ → Prop) (n : ℕ) (g : Fin n → σ → σ) (a : σ) (h0 : P 0 a)
    (h : ∀ (k : Fin n) (s : σ), P k.val s → P (k.val + 1) (g k s)) : P n ((List.finRange n).foldl (fun s k => g k s) a) := by
  induction n with
  | zero => exact h0
  | succ n ih =>
    rw [List.finRange_succ_last, List.foldl_append, List.foldl_map]
    exact h (Fin.last n) _ (ih (fun k => g k.castSucc) fun k s => h k.castSucc s)

/-- The distances of row `r`. -/
def dist (x0 : Vec Ideal S1x512x3 .f32) (x1 : Vec Ideal S1x3x512 .f32) (r : Fin 512) : Fin 512 → EReal :=
  fun k => k0_pay2 x0 x1 (ix2 r k)

/-- After `t` rounds: the distances left, the first `t` columns of distances and of positions. -/
def Inv (x0 : Vec Ideal S1x512x3 .f32) (x1 : Vec Ideal S1x3x512 .f32) (t : ℕ) (s : State) : Prop :=
  (∀ r k, s.1 (ix2 r k) = Nearest.rowAfter big (dist x0 x1 r) t k)
  ∧ (∀ r (j : Fin 64), j.val < t →
      s.2.1 (ix2 r j) = Nearest.rowAfter big (dist x0 x1 r) j.val (Nearest.pick big (dist x0 x1 r) j.val))
  ∧ (∀ r (j : Fin 64), j.val < t → s.2.2 (ix2 r j) = BitVec.ofNat 32 (Nearest.pick big (dist x0 x1 r) j.val).val)

/-- The invariant holds after 64 rounds. -/
theorem inv_final (x0 : Vec Ideal S1x512x3 .f32) (x1 : Vec Ideal S1x3x512 .f32) : Inv x0 x1 64 (final x0 x1) := by
  have h := foldl_finRange_inv (Inv x0 x1) k0_t1_loop.trips round (k0_pay2 x0 x1, k0_pay3, k0_pay4)
    ⟨fun r k => rfl, fun r j hj => absurd hj (Nat.not_lt_zero _), fun r j hj => absurd hj (Nat.not_lt_zero _)⟩ ?_
  · unfold final
    rw [Scf.fold_eq]
    exact (show ∀ n, k0_t1_loop.trips = n → Inv x0 x1 n _ from fun n e => by subst e; exact h) 64 trips_eq
  rintro t s ⟨hD, hd, he⟩
  have hrow : ∀ r, (fun k => s.1 (ix2 r k)) = Nearest.rowAfter big (dist x0 x1 r) t.val := fun r => funext (hD r)
  refine ⟨fun r k => ?_, fun r j hj => ?_, fun r j hj => ?_⟩
  · rw [round_left, pay7_apply, hrow, hD, Nearest.rowAfter_succ]
  · rw [round_dist, pay9_apply, hrow, hD]
    split
    · rename_i e
      rw [e]
      rfl
    · exact hd r j (by omega)
  · rw [round_pos, pay10_apply, hrow]
    split
    · rename_i e
      rw [e]
      rfl
    · exact he r j (by omega)

/-- Column `j` of row `r` of the distances found is the distance at the position round `j` takes, when every distance
    is below the marking value. -/
theorem final_dist (x0 : Vec Ideal S1x512x3 .f32) (x1 : Vec Ideal S1x3x512 .f32) (r : Fin 512) (j : Fin 64)
    (hM : ∀ k, dist x0 x1 r k < big) :
    (final x0 x1).2.1 (ix2 r j) = dist x0 x1 r (Nearest.pick big (dist x0 x1 r) j.val) := by
  rw [(inv_final x0 x1).2.1 r j j.isLt, Nearest.rowAfter_pick hM _ (by omega)]

/-- Column `j` of row `r` of the positions found is the position round `j` takes. -/
theorem final_pos (x0 : Vec Ideal S1x512x3 .f32) (x1 : Vec Ideal S1x3x512 .f32) (r : Fin 512) (j : Fin 64) :
    (final x0 x1).2.2 (ix2 r j) = BitVec.ofNat 32 (Nearest.pick big (dist x0 x1 r) j.val).val :=
  (inv_final x0 x1).2.2 r j j.isLt

end Cert.Proof.KnnBlock
-- ==== Proof.Spec.lean ====
/-
  The edge features as formulas over extended reals: the radial basis of a distance, the feature columns of a residue
  and one of its neighbours, and the normalised row that the edge weights make of them.
-/
module

public import Idealize.ShloMosaic.Lib.IdealHost

@[expose] public section

noncomputable section

namespace Cert.Proof.Spec

open Idealize.ShloMosaic

/-- The centre of radial function `c`. -/
def centre (c : Fin 16) : EReal :=
  Ideal.ofBits .f32 0x40000000#32 + (((BitVec.ofNat 32 c.val).toInt : ℝ) : EReal) * ((4 / 3 : ℝ) : EReal)

/-- How far a distance is from the centre of radial function `c`, in widths. -/
def off (d : EReal) (c : Fin 16) : EReal := Ideal.div (d - centre c) (Ideal.ofBits .f32 0x3FA00000#32)

/-- Radial function `c` of a distance. -/
def rbf (d : EReal) (c : Fin 16) : EReal := Ideal.exp (0 - off d c * off d c)

/-- The softened distance of two points. -/
def apart (p q : Fin 3 → EReal) : EReal :=
  Ideal.sqrt (∑ k, (p k - q k) * (p k - q k) + Ideal.ofBits .f32 0x358637BD#32)

/-- Of each of the 24 pairs, the atom of the residue. -/
def left : Fin 24 → Fin 5 := ![0, 2, 3, 4, 1, 1, 1, 1, 0, 0, 0, 4, 4, 3, 0, 2, 3, 4, 2, 3, 4, 2, 3, 2]

/-- Of each of the 24 pairs, the atom of the neighbour. -/
def right : Fin 24 → Fin 5 := ![0, 2, 3, 4, 0, 2, 3, 4, 2, 3, 4, 2, 3, 2, 1, 1, 1, 1, 0, 0, 0, 4, 4, 3]

/-- The class of a relative position: the difference of the residues' numbers, shifted and clipped, or one class more where the
    chains differ. -/
def cls (ca cb ra rb : ℤ) : ℕ := if ca = cb then (min 64 (max 0 (ra - rb + 32))).toNat else 65

/-- A class is below 100. -/
theorem cls_lt (ca cb ra rb : ℤ) : cls ca cb ra rb < 100 := by
  unfold cls
  split_ifs <;> omega

/-- The embedding of a class. -/
def place (n : ℕ) (W : Fin 66 → Fin 16 → EReal) (b : Fin 16 → EReal) (c : Fin 16) : EReal :=
  ∑ k : Fin 66, (if n = k.val then (1 : EReal) else 0) * W k c + b c

/-- The features of a neighbour, sixteen columns a group: the relative position `pos`, the radial functions of the distance
    `d`, and those of the 24 distances between an atom of the residue (`u`) and an atom of the neighbour (`w`). -/
def group (pos : Fin 16 → EReal) (d : EReal) (u w : Fin 5 → Fin 3 → EReal) (q : Fin 26) (c : Fin 16) : EReal :=
  if q.val = 0 then pos c
  else if q.val = 1 then rbf d c
  else rbf (apart (u (left ⟨q.val - 2, by omega⟩)) (w (right ⟨q.val - 2, by omega⟩))) c

/-- The same by column. -/
def feat (pos : Fin 16 → EReal) (d : EReal) (u w : Fin 5 → Fin 3 → EReal) (j : Fin 416) : EReal :=
  group pos d u w ⟨j.val / 16, by omega⟩ ⟨j.val % 16, by omega⟩

/-- The mean of a row. -/
def mean (e : Fin 128 → EReal) : EReal := Ideal.div (∑ f, e f) (Ideal.ofBits .f32 0x43000000#32)

/-- The variance of a row, softened. -/
def spread (e : Fin 128 → EReal) : EReal :=
  Ideal.div (∑ f, (e f - mean e) * (e f - mean e)) (Ideal.ofBits .f32 0x43000000#32) + Ideal.ofBits .f32 0x3727C5AC#32

/-- A row normalised, scaled and shifted. -/
def normed (e γ β : Fin 128 → EReal) (f : Fin 128) : EReal := (e f - mean e) * Ideal.rsqrt (spread e) * γ f + β f

/-- The row of edge features that the weights make of the feature columns. -/
def edge (x : Fin 416 → EReal) (W : Fin 416 → Fin 128 → EReal) (f : Fin 128) : EReal := ∑ j, x j * W j f

end Cert.Proof.Spec
-- ==== Proof.Answer.lean ====
/-
  The two results as formulas in the arguments: the neighbours of a residue by the softened distance of the second atoms,
  and the normalised row of edge features of a residue and each of its neighbours.
-/
module

public import proofs.«01_k».proof.Proof.HostTable
public import proofs.«01_k».proof.Proof.KnnBlock
public import proofs.«01_k».proof.Proof.Spec

@[expose] public section

noncomputable section

namespace Cert.Proof.Answer

open Cert.KernelIdeal Cert.KernelIdeal.Gen
open Idealize.ShloMosaic Idealize.ShloMosaic.TcCoe
open Cert.Proof.HostTable (atom)

variable (X : FVec Ideal S4x512x4x3 .f32) (res ch : IVec S4x512 32) (pw : FVec Ideal S66x16 .f32) (pb : FVec Ideal S16 .f32)
  (W : FVec Ideal S416x128 .f32) (γ β : FVec Ideal S128 .f32)

/-- The distance of residues `l` and `k`. -/
def gap (b : Fin 4) (l k : Fin 512) : EReal := Spec.apart (atom X b l 1) (atom X b k 1)

/-- The `j`-th nearest residue to residue `l`, the first of equals first. -/
def near (b : Fin 4) (l : Fin 512) (j : Fin 64) : Fin 512 := Nearest.pick KnnBlock.big (gap X b l) j.val

/-- The class of the relative position of residues `l` and `p`. -/
def clsOf (b : Fin 4) (l p : Fin 512) : ℕ :=
  Spec.cls (ch (ix2 b l)).toInt (ch (ix2 b p)).toInt (res (ix2 b l)).toInt (res (ix2 b p)).toInt

/-- The features of residue `l` and residue `p`, at distance `gap`. -/
def featOf (b : Fin 4) (l p : Fin 512) : Fin 416 → EReal :=
  Spec.feat (Spec.place (clsOf res ch b l p) (fun k c => pw (ix2 k c)) (fun c => pb (ix1 c))) (gap X b l p) (atom X b l) (atom X b p)

/-- The edge features of residue `l` and residue `p`, before they are normalised. -/
def edgeOf (b : Fin 4) (l p : Fin 512) : Fin 128 → EReal := Spec.edge (featOf X res ch pw pb b l p) (fun j f => W (ix2 j f))

/-- The edge features of residue `l` and its `j`-th neighbour. -/
def result (b : Fin 4) (l : Fin 512) (j : Fin 64) (f : Fin 128) : EReal :=
  Spec.normed (edgeOf X res ch pw pb W b l (near X b l j)) (fun f => γ (ix1 f)) (fun f => β (ix1 f)) f

end Cert.Proof.Answer
-- ==== Proof.Drawn.lean ====
/-
  What the precondition says of the arguments: the coordinates of the second atoms are numbers of size at most 2^126, the
  mask is one everywhere, the residues' numbers lie from 0 to below 2^30. So every distance of two second atoms is below
  the greatest number of the format.
-/
module

public import proofs.«01_k».proof.Pre_drawn
public import proofs.«01_k».proof.Proof.Gen.Pre_drawn
public import proofs.«01_k».proof.Proof.Answer
public import Idealize.ShloMosaic.Lib.ReduceAll

@[expose] public section

set_option maxRecDepth 16384

noncomputable section

namespace Cert.Proof.Drawn

open Cert.Pre_drawn Cert.Pre_drawn.Gen
open Idealize.ShloMosaic

/-! ## The numbers -/

/-- The word of the constant one is the number one. -/
theorem bits_one : Ideal.ofBits .f32 0x3F800000#32 = (1 : EReal) := by
  simp [Ideal.ofBits, Ideal.ieee]
  rw [← EReal.coe_mul]; norm_num

/-- The word of the precondition's bound is `2^126`. -/
theorem bits_bound : Ideal.ofBits .f32 0x7E800000#32 = ((2 ^ 126 : ℝ) : EReal) := by
  simp [Ideal.ofBits, Ideal.ieee]
  simp only [← EReal.coe_one, ← EReal.coe_pow, ← EReal.coe_sub, ← EReal.coe_mul]; norm_num

/-- The word of the greatest number of the format is `(2^24 - 1) * 2^104`. -/
theorem bits_big : Ideal.ofBits .f32 0x7F7FFFFF#32 = (((2 ^ 24 - 1) * 2 ^ 104 : ℝ) : EReal) := by
  simp [Ideal.ofBits, Ideal.ieee]
  simp only [← EReal.coe_one, ← EReal.coe_pow, ← EReal.coe_sub, ← EReal.coe_mul]; norm_num

/-- The softening of a distance is a number of at most one. -/
theorem bits_soft : ∃ r : ℝ, Ideal.ofBits .f32 0x358637BD#32 = (r : EReal) ∧ 0 ≤ r ∧ r ≤ 1 := by
  simp [Ideal.ofBits, Ideal.ieee]
  refine ⟨_, (EReal.coe_mul _ _).symm, by positivity, by norm_num⟩

/-- A decided bit that is one was decided true. -/
theorem word_one {p : Prop} [Decidable p] (h : BitVec.ofBool (decide p) = 1#1) : p := by
  by_contra hp
  rw [decide_eq_false hp] at h
  exact absurd h (by decide)

/-! ## The parts of the precondition -/

section Parts

variable (X : FVec Ideal S4x512x4x3 .f32) (M : FVec Ideal S4x512 .f32) (R C : IVec S4x512 32) (pw : FVec Ideal S66x16 .f32)
  (pb : FVec Ideal S16 .f32) (W : FVec Ideal S416x128 .f32) (γ β : FVec Ideal S128 .f32)
  (h : Cert.Pre_drawn.fn (F := Ideal) X M R C pw pb W γ β = fun _ => 1#1)

include h in
/-- The precondition's four parts, each at every index. -/
theorem parts :
    (∀ i : S4x512x3.Idx, cmpf .ole (Host.absf (shapeCast S4x512x3 (extractStridedSlice S4x512x1x3 ![0, 0, 1, 0] X slices_S4x512x4x3_S4x512x1x3_0_0_1_0) shapeCasts_S4x512x1x3_S4x512x3))
        (broadcastInDim S4x512x3 ![] bcast_S_S4x512x3 (constant (F := Ideal) S_ .f32 0x7E800000#32)) i = 1#1)
    ∧ (∀ i : S4x512.Idx, cmpf .oeq M (broadcastInDim S4x512 ![] bcast_S_S4x512 (constant (F := Ideal) S_ .f32 0x3F800000#32)) i = 1#1)
    ∧ (∀ i : S4x512.Idx, cmpi .sge R (broadcastInDim S4x512 ![] bcast_S_S4x512 (constantI S_ 32 0#32)) i = 1#1)
    ∧ ∀ i : S4x512.Idx, cmpi .slt R (broadcastInDim S4x512 ![] bcast_S_S4x512 (constantI S_ 32 1073741824#32)) i = 1#1 := by
  have h0 := congrFun h (ix0 : S_.Idx)
  obtain ⟨h1, h4⟩ := IntOp.andi_eq_one.1 h0
  obtain ⟨h2, h3⟩ := IntOp.andi_eq_one.1 h1
  obtain ⟨ha, hb⟩ := IntOp.andi_eq_one.1 h2
  haveI : Subsingleton S_.Idx := ⟨fun a b => funext fun k => k.elim0⟩
  exact ⟨Host.reduce_andi_all _ _ _ _ _ ha, Host.reduce_andi_all _ _ _ _ _ hb, Host.reduce_andi_all _ _ _ _ _ h3,
    Host.reduce_andi_all _ _ _ _ _ h4⟩

include h in
/-- The mask is one. -/
theorem mask_one (b : Fin 4) (l : Fin 512) : M (ix2 b l) = (1 : EReal) := by
  have e : Ideal.cmp .oeq (M (ix2 b l)) (Ideal.ofBits .f32 0x3F800000#32) = 1#1 := (parts X M R C pw pb W γ β h).2.1 (ix2 b l)
  rw [bits_one] at e
  exact word_one e

include h in
/-- The residues' numbers are in range. -/
theorem res_range (b : Fin 4) (l : Fin 512) : 0 ≤ (R (ix2 b l)).toInt ∧ (R (ix2 b l)).toInt < 1073741824 :=
  ⟨IntOp.cmpi_sge.1 ((parts X M R C pw pb W γ β h).2.2.1 (ix2 b l)), IntOp.cmpi_slt.1 ((parts X M R C pw pb W γ β h).2.2.2 (ix2 b l))⟩

include h in
/-- A coordinate of a second atom is a number of size at most `2^126`. -/
theorem coord (b : Fin 4) (l : Fin 512) (k : Fin 3) : ∃ r : ℝ, X (ix4 b l 1 k) = (r : EReal) ∧ |r| ≤ 2 ^ 126 := by
  have e := (parts X M R C pw pb W γ β h).1 (ix3 b l k)
  have hs : shapeCast S4x512x3 (extractStridedSlice S4x512x1x3 ![0, 0, 1, 0] X slices_S4x512x4x3_S4x512x1x3_0_0_1_0)
      shapeCasts_S4x512x1x3_S4x512x3 (ix3 b l k) = X (ix4 b l 1 k) := by
    pointwise []
  have e' : Ideal.cmp .ole (max (X (ix4 b l 1 k)) (-(X (ix4 b l 1 k)))) (Ideal.ofBits .f32 0x7E800000#32) = 1#1 := by
    rw [← hs]; exact e
  rw [bits_bound] at e'
  have hle : max (X (ix4 b l 1 k)) (-(X (ix4 b l 1 k))) ≤ ((2 ^ 126 : ℝ) : EReal) := word_one e'
  generalize (X (ix4 b l 1 k) : EReal) = x at hle
  obtain ⟨h1, h2⟩ := max_le_iff.1 hle
  induction x using EReal.rec with
  | bot => exact absurd h2 (by rw [EReal.neg_bot]; exact not_le.mpr (EReal.coe_lt_top _))
  | top => exact absurd h1 (not_le.mpr (EReal.coe_lt_top _))
  | coe r =>
    rw [← EReal.coe_neg] at h2
    exact ⟨r, rfl, abs_le'.2 ⟨EReal.coe_le_coe_iff.1 h1, EReal.coe_le_coe_iff.1 h2⟩⟩

end Parts

/-! ## The distances -/

/-- The square of a difference of two numbers of size at most `2^126`. -/
theorem square_le {a c : ℝ} (ha : |a| ≤ 2 ^ 126) (hc : |c| ≤ 2 ^ 126) : (a - c) * (a - c) ≤ 2 ^ 254 := by
  have h : |a - c| ≤ 2 ^ 127 := (abs_sub a c).trans (by linarith)
  have := abs_le.1 h
  nlinarith

/-- Two points with coordinates of size at most `2^126` lie less than the greatest number of the format apart. -/
theorem apart_lt (p q : Fin 3 → EReal) (hp : ∀ k, ∃ r : ℝ, p k = (r : EReal) ∧ |r| ≤ 2 ^ 126)
    (hq : ∀ k, ∃ r : ℝ, q k = (r : EReal) ∧ |r| ≤ 2 ^ 126) : Spec.apart p q < KnnBlock.big := by
  choose u hu hub using hp
  choose v hv hvb using hq
  obtain ⟨s, hs, hs0, hs1⟩ := bits_soft
  unfold Spec.apart KnnBlock.big
  rw [hs, bits_big, Fin.sum_univ_three]
  simp only [hu, hv, ← EReal.coe_mul, ← EReal.coe_sub, ← EReal.coe_add]
  set t : ℝ := (u 0 - v 0) * (u 0 - v 0) + (u 1 - v 1) * (u 1 - v 1) + (u 2 - v 2) * (u 2 - v 2) + s with ht
  have ht0 : 0 ≤ t := add_nonneg (add_nonneg (add_nonneg (mul_self_nonneg _) (mul_self_nonneg _)) (mul_self_nonneg _)) hs0
  have ht1 : t < ((2 ^ 24 - 1) * 2 ^ 104 : ℝ) ^ 2 := by
    have h0 := square_le (hub 0) (hvb 0)
    have h1 := square_le (hub 1) (hvb 1)
    have h2 := square_le (hub 2) (hvb 2)
    calc t ≤ 2 ^ 254 + 2 ^ 254 + 2 ^ 254 + 1 := by rw [ht]; linarith
      _ < _ := by norm_num
  have e : Ideal.sqrt (t : EReal) = ((Real.sqrt t : ℝ) : EReal) := if_neg (not_lt.mpr ht0)
  rw [e]
  exact EReal.coe_lt_coe_iff.2 ((Real.sqrt_lt' (by norm_num)).2 ht1)

/-- Under the precondition every distance of two second atoms is below the greatest number. -/
theorem gap_lt (X : FVec Ideal S4x512x4x3 .f32) (M : FVec Ideal S4x512 .f32) (R C : IVec S4x512 32) (pw : FVec Ideal S66x16 .f32)
    (pb : FVec Ideal S16 .f32) (W : FVec Ideal S416x128 .f32) (γ β : FVec Ideal S128 .f32)
    (h : Cert.Pre_drawn.fn (F := Ideal) X M R C pw pb W γ β = fun _ => 1#1) (b : Fin 4) (l k : Fin 512) :
    Answer.gap X b l k < KnnBlock.big :=
  apart_lt _ _ (coord X M R C pw pb W γ β h b l) (coord X M R C pw pb W γ β h b k)

end Cert.Proof.Drawn
-- ==== Proof.FeatBlock.lean ====
/-
  What the feature kernel leaves in its block, by coordinates: a row is the normalised row of edge features (Spec.lean) of
  the row's residue and neighbour.
-/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.Proof.FeatBlock

open Cert.KernelIdeal Cert.KernelIdeal.Gen
open Idealize.ShloMosaic Idealize.ShloMosaic.TcCoe

/-- The named spacing of the centres is four thirds. -/
theorem kappa_spacing : (Named.named κ "spacing" 0x3FAAAAAB#32 : Ideal .f32) = ((4 / 3 : ℝ) : EReal) := rfl

/-- Three consecutive columns of a row, those of atom `a`. -/
def trio (v : FVec Ideal S2048x17 .f32) (r : Fin 2048) (a : Fin 5) (k : Fin 3) : EReal := v (ix2 r ⟨3 * a.val + k.val, by omega⟩)

/-- The group of the pair before the last, from what an exponential is taken of. -/
def lastBut (v612 : FVec Ideal S2048x16 .f32) : FVec Ideal S2048x16 .f32 :=
  exp (subf (broadcast S2048x16 (Scalar.ofBits (F := Ideal) .f32 0x00000000#32)) v612)

/-- The group of the last pair. -/
def last (v9 v20 : FVec Ideal S2048x17 .f32) : FVec Ideal S2048x16 .f32 :=
  let d : FVec Ideal S2048x3 .f32 := subf (extractStridedSlice S2048x3 ![0, 6] v20 slices_S2048x17_o0_6_S2048x3)
    (extractStridedSlice S2048x3 ![0, 9] v9 slices_S2048x17_o0_9_S2048x3)
  let s : FVec Ideal S2048x1 .f32 := shapeCast S2048x1 (multiReduction .add [1] S2048 (mulf d d) 0x00000000#32 reduces_S2048x3_S2048 (.inl rfl) rfl)
    shapeCasts_S2048_S2048x1
  let e : FVec Ideal S2048x1 .f32 := sqrt (addf s (broadcast S2048x1 (Scalar.ofBits (F := Ideal) .f32 0x358637BD#32)))
  let μ : FVec Ideal S1x16 .f32 := addf (broadcast S1x16 (Scalar.ofBits (F := Ideal) .f32 0x40000000#32))
    (mulf (sitofp .f32 (iota .tc S1x16 32 [1] iota_S1x16_d1_w32)) (broadcast S1x16 (Named.named (F := Ideal) κ "spacing" 0x3FAAAAAB#32)))
  let z : FVec Ideal S2048x16 .f32 := divf (subf (broadcastTo S2048x16 e broadcasts_S2048x1_S2048x16) (broadcastTo S2048x16 μ broadcasts_S1x16_S2048x16))
    (broadcast S2048x16 (Scalar.ofBits (F := Ideal) .f32 0x3FA00000#32))
  exp (subf (broadcast S2048x16 (Scalar.ofBits (F := Ideal) .f32 0x00000000#32)) (mulf z z))

/-- The groups of the 24 pairs, from the neighbours' rows and the residues' own. -/
def pairs (v9 v20 : FVec Ideal S2048x17 .f32) : Fin 24 → FVec Ideal S2048x16 .f32 :=
  ![k1_pay8 (k1_pay7 v9 v20),
    k1_pay9 v9 v20,
    k1_pay11 (k1_pay10 v9 v20),
    k1_pay12 v9 v20,
    k1_pay14 (k1_pay13 v9 v20),
    k1_pay15 v9 v20,
    k1_pay17 (k1_pay16 v9 v20),
    k1_pay18 v9 v20,
    k1_pay20 (k1_pay19 v9 v20),
    k1_pay21 v9 v20,
    k1_pay23 (k1_pay22 v9 v20),
    k1_pay24 v9 v20,
    k1_pay26 (k1_pay25 v9 v20),
    k1_pay27 v9 v20,
    k1_pay29 (k1_pay28 v9 v20),
    k1_pay30 v9 v20,
    k1_pay32 (k1_pay31 v9 v20),
    k1_pay33 v9 v20,
    k1_pay35 (k1_pay34 v9 v20),
    k1_pay36 v9 v20,
    k1_pay38 (k1_pay37 v9 v20),
    k1_pay39 v9 v20,
    lastBut (k1_pay40 v9 v20), last v9 v20]

/-- A pair's group is the radial functions of the distance of its two atoms. -/
theorem pairs_apply (v9 v20 : FVec Ideal S2048x17 .f32) (q : Fin 24) (r : Fin 2048) (c : Fin 16) :
    pairs v9 v20 q (ix2 r c) = Spec.rbf (Spec.apart (trio v20 r (Spec.left q)) (trio v9 r (Spec.right q))) c := by
  fin_cases q
  all_goals
    simp only [pairs, Spec.left, Spec.right, Fin.zero_eta, Fin.mk_one, Fin.reduceFinMk, Matrix.cons_val_zero, Matrix.cons_val_one, Matrix.cons_val]
    pointwise [k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, last, lastBut]
    rfl

/-- The column group of the neighbour's distance holds its radial functions. -/
theorem dist_apply (v : Vec Ideal S1x2048x1 .f32) (r : Fin 2048) (c : Fin 16) :
    k1_pay6 (F := Ideal) v (ix2 r c) = Spec.rbf (v (ix3 0 r 0)) c := by
  pointwise [k1_pay6]
  rfl

/-! ## The groups side by side, the weights and the normalisation -/

/-- The groups side by side. -/
def beside (P : Fin 26 → FVec Ideal S2048x16 .f32) : FVec Ideal S2048x416 .f32 :=
  concatenate S2048x416 1 (List.ofFn fun n => (⟨S2048x16, P n⟩ : (s : Shape) × (s.Idx → EReal)))
    concatenates_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x416_d1

/-- Column `j` of 26 groups laid side by side is column `j % 16` of group `j / 16`. -/
theorem beside_apply (P : Fin 26 → FVec Ideal S2048x16 .f32) (r : Fin 2048) (j : Fin 416) :
    beside P (ix2 r j) = P ⟨j.val / 16, by omega⟩ (ix2 r ⟨j.val % 16, by omega⟩) := by
  unfold beside
  refine concatenate_ofFn_apply (t := S2048x416) (s₁ := S2048x16) (1 : Fin 2) P _ rfl 16 rfl (ix2 r j) ⟨j.val / 16, by omega⟩ rfl
    (ix2 r ⟨j.val % 16, by omega⟩) rfl fun b hb => ?_
  match b with
  | 0 => rfl
  | 1 => exact absurd rfl hb

/-- The kernel's own concatenation of 26 groups is that laying side by side. -/
theorem beside_lit (p0 p1 p2 p3 p4 p5 p6 p7 p8 p9 p10 p11 p12 p13 p14 p15 p16 p17 p18 p19 p20 p21 p22 p23 p24 p25 : FVec Ideal S2048x16 .f32) : beside ![p0, p1, p2, p3, p4, p5, p6, p7, p8, p9, p10, p11, p12, p13, p14, p15, p16, p17, p18, p19, p20, p21, p22, p23, p24, p25]
    = concatenate S2048x416 1 [⟨S2048x16, p0⟩, ⟨S2048x16, p1⟩, ⟨S2048x16, p2⟩, ⟨S2048x16, p3⟩, ⟨S2048x16, p4⟩, ⟨S2048x16, p5⟩, ⟨S2048x16, p6⟩, ⟨S2048x16, p7⟩, ⟨S2048x16, p8⟩, ⟨S2048x16, p9⟩, ⟨S2048x16, p10⟩, ⟨S2048x16, p11⟩, ⟨S2048x16, p12⟩, ⟨S2048x16, p13⟩, ⟨S2048x16, p14⟩, ⟨S2048x16, p15⟩, ⟨S2048x16, p16⟩, ⟨S2048x16, p17⟩, ⟨S2048x16, p18⟩, ⟨S2048x16, p19⟩, ⟨S2048x16, p20⟩, ⟨S2048x16, p21⟩, ⟨S2048x16, p22⟩, ⟨S2048x16, p23⟩, ⟨S2048x16, p24⟩, ⟨S2048x16, p25⟩]
      concatenates_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x16_S2048x416_d1 := rfl

/-- Rows under the edge weights. -/
def weighed (x : FVec Ideal S2048x416 .f32) (W : FVec Ideal S416x128 .f32) : FVec Ideal S2048x128 .f32 :=
  matmul dot_S2048x416_S416x128_S2048x128_1_0_0_1_n_n (some .fp32) x W (constant S2048x128 .f32 0x00000000#32)

/-- Rows less their means. -/
def centred (e : FVec Ideal S2048x128 .f32) : FVec Ideal S2048x128 .f32 :=
  subf e (broadcastTo S2048x128 (divf (shapeCast S2048x1 (multiReduction .add [1] S2048 e 0x00000000#32 reduces_S2048x128_S2048 (.inl rfl) rfl)
    shapeCasts_S2048_S2048x1) (broadcast S2048x1 (Scalar.ofBits (F := Ideal) .f32 0x43000000#32))) broadcasts_S2048x1_S2048x128)

/-- The factor a row is scaled by. -/
def scaleOf (d : FVec Ideal S2048x128 .f32) : FVec Ideal S2048x128 .f32 :=
  broadcastTo S2048x128 (rsqrt (addf (divf (shapeCast S2048x1 (multiReduction .add [1] S2048 (mulf d d) 0x00000000#32 reduces_S2048x128_S2048 (.inl rfl) rfl)
    shapeCasts_S2048_S2048x1) (broadcast S2048x1 (Scalar.ofBits (F := Ideal) .f32 0x43000000#32)))
    (broadcast S2048x1 (Scalar.ofBits (F := Ideal) .f32 0x3727C5AC#32)))) broadcasts_S2048x1_S2048x128

section Payloads

variable (v9 v20 : FVec Ideal S2048x17 .f32) (v46 v63 v87 v111 v135 v159 v183 v207 v231 v255 v279 v303 v327 v351 v375 v399 v423 v447 v471 v495 v519 v543 v567 v591 v612 : FVec Ideal S2048x16 .f32)
  (v641 : Vec Ideal S416x128 .f32)

/-- The centred row as the kernel computes it from the 26 groups. -/
theorem pay41_eq : k1_pay41 v9 v20 v46 v63 v87 v111 v135 v159 v183 v207 v231 v255 v279 v303 v327 v351 v375 v399 v423 v447 v471 v495 v519 v543 v567 v591 v612 v641
    = centred (weighed (beside ![v46, v63, v87, v111, v135, v159, v183, v207, v231, v255, v279, v303, v327, v351, v375, v399, v423, v447, v471, v495, v519, v543, v567, v591, lastBut v612, last v9 v20]) v641) := by
  rw [beside_lit]
  rfl

/-- The scale of the row as the kernel computes it from the 26 groups. -/
theorem pay42_eq : k1_pay42 v9 v20 v46 v63 v87 v111 v135 v159 v183 v207 v231 v255 v279 v303 v327 v351 v375 v399 v423 v447 v471 v495 v519 v543 v567 v591 v612 v641
    = scaleOf (centred (weighed (beside ![v46, v63, v87, v111, v135, v159, v183, v207, v231, v255, v279, v303, v327, v351, v375, v399, v423, v447, v471, v495, v519, v543, v567, v591, lastBut v612, last v9 v20]) v641)) := by
  unfold k1_pay42
  rw [pay41_eq]
  rfl

end Payloads

/-- An entry of the weighed columns is a sum over the columns. -/
theorem weighed_apply (x : FVec Ideal S2048x416 .f32) (W : FVec Ideal S416x128 .f32) (r : Fin 2048) (f : Fin 128) :
    weighed x W (ix2 r f) = Spec.edge (fun j => x (ix2 r j)) (fun j f => W (ix2 j f)) f := by
  pointwise [weighed]
  rfl

/-- An entry of the centred row is the entry less the row's mean. -/
theorem centred_apply (e : FVec Ideal S2048x128 .f32) (r : Fin 2048) (f : Fin 128) :
    centred e (ix2 r f) = e (ix2 r f) - Spec.mean fun f => e (ix2 r f) := by
  pointwise [centred]
  rfl

/-- The scale of a row is the inverse root of its softened variance. -/
theorem scaleOf_apply (e : FVec Ideal S2048x128 .f32) (r : Fin 2048) (f : Fin 128) :
    scaleOf (centred e) (ix2 r f) = Ideal.rsqrt (Spec.spread fun f => e (ix2 r f)) := by
  pointwise [scaleOf, centred_apply]
  rfl

/-- An entry of the block written is the normalised row's entry. -/
theorem out_apply (e : FVec Ideal S2048x128 .f32) (γ β : Vec Ideal S1x128 .f32) (r : Fin 2048) (f : Fin 128) :
    k1_pay1 (centred e) (scaleOf (centred e)) γ β (ix3 0 r f)
      = Spec.normed (fun f => e (ix2 r f)) (fun f => γ (ix2 0 f)) (fun f => β (ix2 0 f)) f := by
  pointwise [k1_pay1, centred_apply, scaleOf_apply]
  rfl

/-! ## Opening the block -/

/-- The 26 groups. -/
def groups (pos d : FVec Ideal S2048x16 .f32) (v9 v20 : FVec Ideal S2048x17 .f32) (q : Fin 26) : FVec Ideal S2048x16 .f32 :=
  if q.val = 0 then pos else if q.val = 1 then d else pairs v9 v20 ⟨q.val - 2, by omega⟩

section Block

variable (x0 : Vec Ideal S1x2048x1 .i32) (x1 : Vec Ideal S1x2048x1 .f32) (x2 : Vec Ideal S1x32x17 .f32) (x3 : Vec Ideal S1x512x17 .f32)
  (x4 : Vec Ideal S66x16 .f32) (x5 : Vec Ideal S1x16 .f32) (x6 : Vec Ideal S416x128 .f32) (x7 x8 : Vec Ideal S1x128 .f32)

/-- The neighbours' table rows, as a product of the positions' one-hot matrix. -/
theorem near_eq : k1_pay43 (F := Ideal) x0 x1 x2 x3 x4 x5 x6 x7 x8 = k1_pay2 x0 x3 := by
  unfold k1_pay43
  rw [View.ld_unit_lit _ x0 (by decide), View.ld_unit_lit _ x3 (by decide)]

/-- The residues' own table rows, as a product of a one-hot matrix. -/
theorem own_eq : k1_pay44 (F := Ideal) x0 x1 x2 x3 x4 x5 x6 x7 x8 = k1_pay3 x2 := by
  unfold k1_pay44
  rw [View.ld_unit_lit _ x2 (by decide)]

/-- The column group of the relative position. -/
theorem pos_eq : k1_pay45 (F := Ideal) x0 x1 x2 x3 x4 x5 x6 x7 x8 = k1_pay5 (k1_pay4 x0 x3 x2) x4 x5 := by
  unfold k1_pay45
  rw [View.ld_unit_lit _ x0 (by decide), View.ld_unit_lit _ x3 (by decide), View.ld_unit_lit _ x2 (by decide),
    View.ld_unit_lit _ x4 (by decide), View.ld_unit_lit _ x5 (by decide)]

/-- The column group of the neighbour's distance. -/
theorem dn_eq : k1_pay46 (F := Ideal) x0 x1 x2 x3 x4 x5 x6 x7 x8 = k1_pay6 x1 := by
  unfold k1_pay46
  rw [View.ld_unit_lit _ x1 (by decide)]

/-- The 26 column groups of the block. -/
theorem groups_eq : ![k1_pay45 x0 x1 x2 x3 x4 x5 x6 x7 x8, k1_pay46 x0 x1 x2 x3 x4 x5 x6 x7 x8, k1_pay47 x0 x1 x2 x3 x4 x5 x6 x7 x8, k1_pay48 x0 x1 x2 x3 x4 x5 x6 x7 x8, k1_pay49 x0 x1 x2 x3 x4 x5 x6 x7 x8, k1_pay50 x0 x1 x2 x3 x4 x5 x6 x7 x8, k1_pay51 x0 x1 x2 x3 x4 x5 x6 x7 x8, k1_pay52 x0 x1 x2 x3 x4 x5 x6 x7 x8, k1_pay53 x0 x1 x2 x3 x4 x5 x6 x7 x8, k1_pay54 x0 x1 x2 x3 x4 x5 x6 x7 x8, k1_pay55 x0 x1 x2 x3 x4 x5 x6 x7 x8, k1_pay56 x0 x1 x2 x3 x4 x5 x6 x7 x8, k1_pay57 x0 x1 x2 x3 x4 x5 x6 x7 x8, k1_pay58 x0 x1 x2 x3 x4 x5 x6 x7 x8, k1_pay59 x0 x1 x2 x3 x4 x5 x6 x7 x8, k1_pay60 x0 x1 x2 x3 x4 x5 x6 x7 x8, k1_pay61 x0 x1 x2 x3 x4 x5 x6 x7 x8, k1_pay62 x0 x1 x2 x3 x4 x5 x6 x7 x8, k1_pay63 x0 x1 x2 x3 x4 x5 x6 x7 x8, k1_pay64 x0 x1 x2 x3 x4 x5 x6 x7 x8, k1_pay65 x0 x1 x2 x3 x4 x5 x6 x7 x8, k1_pay66 x0 x1 x2 x3 x4 x5 x6 x7 x8, k1_pay67 x0 x1 x2 x3 x4 x5 x6 x7 x8, k1_pay68 x0 x1 x2 x3 x4 x5 x6 x7 x8, lastBut (k1_pay69 x0 x1 x2 x3 x4 x5 x6 x7 x8), last (k1_pay43 x0 x1 x2 x3 x4 x5 x6 x7 x8) (k1_pay44 x0 x1 x2 x3 x4 x5 x6 x7 x8)]
    = groups (k1_pay5 (k1_pay4 x0 x3 x2) x4 x5) (k1_pay6 x1) (k1_pay2 x0 x3) (k1_pay3 x2) := by
  funext q
  unfold k1_pay47 k1_pay48 k1_pay49 k1_pay50 k1_pay51 k1_pay52 k1_pay53 k1_pay54 k1_pay55 k1_pay56 k1_pay57 k1_pay58 k1_pay59 k1_pay60 k1_pay61 k1_pay62 k1_pay63 k1_pay64 k1_pay65 k1_pay66 k1_pay67 k1_pay68 k1_pay69
  rw [near_eq, own_eq, pos_eq, dn_eq]
  fin_cases q <;> rfl

/-- The block written, by its 26 column groups. -/
theorem out_eq : out1_9 (F := Ideal) x0 x1 x2 x3 x4 x5 x6 x7 x8
    = let e := weighed (beside (groups (k1_pay5 (k1_pay4 x0 x3 x2) x4 x5) (k1_pay6 x1) (k1_pay2 x0 x3) (k1_pay3 x2))) x6
      k1_pay1 (centred e) (scaleOf (centred e)) x7 x8 := by
  unfold out1_9
  rw [View.canon_cons_unit_lit, pay41_eq, pay42_eq, groups_eq, View.ld_unit_lit _ x6 (by decide), View.ld_unit_lit _ x7 (by decide),
    View.ld_unit_lit _ x8 (by decide)]
  decide

end Block

end Cert.Proof.FeatBlock
-- ==== Proof.FeatRows.lean ====
/-
  The feature kernel's rows: a one-hot row times a table reads one row of the table, so a row of the block is the features
  of the residue the row belongs to and of the neighbour whose position it holds.
-/
module

public import proofs.«01_k».proof.Proof.FeatBlock
public import proofs.«01_k».proof.Proof.KnnBlock

@[expose] public section

set_option maxRecDepth 16384

noncomputable section

namespace Cert.Proof.FeatRows

open Cert.KernelIdeal Cert.KernelIdeal.Gen
open Idealize.ShloMosaic Idealize.ShloMosaic.TcCoe
open Cert.Proof.FeatBlock

/-- The number one where two words agree, zero elsewhere. -/
theorem hot (a b : BitVec 32) :
    (FloatOps.sitofp .f32 (BitVec.setWidth 32 (IntOp.cmpi .eq a b)) : Ideal .f32) = if a = b then (1 : EReal) else 0 := by
  show (((BitVec.setWidth 32 (IntOp.cmpi .eq a b)).toInt : ℝ) : EReal) = _
  by_cases h : a = b
  · simp [IntOp.cmpi, h]
  · have h' : (a == b) = false := by simpa using h
    simp [IntOp.cmpi, h, h']

/-- A sum against a one-hot row keeps one term. -/
theorem sum_hot {n : ℕ} (p : Fin n) (g : Fin n → EReal) : (∑ x : Fin n, (if p.val = x.val then (1 : EReal) else 0) * g x) = g p := by
  rw [Finset.sum_eq_single p]
  · simp
  · intro b _ hb
    rw [if_neg (fun h => hb (Fin.ext h.symm)), zero_mul]
  · exact fun h => absurd (Finset.mem_univ p) h

/-- The neighbour's row, where the position's word is that of `p`. -/
theorem near_apply (v : Vec Ideal S1x2048x1 .i32) (w : Vec Ideal S1x512x17 .f32) (r : Fin 2048) (p : Fin 512)
    (hp : v (ix3 0 r 0) = BitVec.ofNat 32 p.val) (c : Fin 17) : k1_pay2 (F := Ideal) v w (ix2 r c) = w (ix3 0 p c) := by
  pointwise [k1_pay2]
  simp only [hot, hp, KnnBlock.ofNat_eq_iff _ _ p.isLt (Fin.isLt _)]
  exact sum_hot p fun x => w (ix3 0 x c)

/-- Shifting a row number right by six bits divides it by 64. -/
theorem shr6 (r : ℕ) (h : r < 2048) : IntOp.shrui ArithUnit.vector (BitVec.ofNat 32 r) 6#32 = BitVec.ofNat 32 (r / 64) := by
  have e : (6#32 : BitVec 32).toNat = 6 := rfl
  rw [IntOp.shrui, if_pos (by rw [e]; omega)]
  apply BitVec.eq_of_toNat_eq
  rw [BitVec.ushiftRight_eq', e, BitVec.toNat_ushiftRight, BitVec.toNat_ofNat, BitVec.toNat_ofNat, Nat.shiftRight_eq_div_pow,
    Nat.mod_eq_of_lt (by omega), Nat.mod_eq_of_lt (by omega)]

/-- The residue's own row. -/
theorem own_apply (v : Vec Ideal S1x32x17 .f32) (r : Fin 2048) (c : Fin 17) :
    k1_pay3 (F := Ideal) v (ix2 r c) = v (ix3 0 ⟨r.val / 64, by omega⟩ c) := by
  pointwise [k1_pay3]
  simp only [hot, shr6 _ r.isLt]
  rw [← sum_hot (⟨r.val / 64, by omega⟩ : Fin 32) fun x => v (ix3 0 x c)]
  refine Finset.sum_congr rfl fun x _ => ?_
  simp only [KnnBlock.ofNat_eq_iff (r.val / 64) x.val (by omega) (by omega)]

/-! ## The relative position's class -/

/-- The word of the constant 32 is the number 32. -/
theorem bits32 : Ideal.ofBits .f32 1107296256#32 = ((32 : ℝ) : EReal) := by
  simp [Ideal.ofBits, Ideal.ieee]
  rw [← EReal.coe_mul]
  norm_num
/-- The word of the constant 64 is the number 64. -/
theorem bits64 : Ideal.ofBits .f32 1115684864#32 = ((64 : ℝ) : EReal) := by
  simp [Ideal.ofBits, Ideal.ieee]
  rw [← EReal.coe_mul]
  norm_num
/-- The word of the constant 65 is the number 65. -/
theorem bits65 : Ideal.ofBits .f32 1115815936#32 = ((65 : ℝ) : EReal) := by
  simp [Ideal.ofBits, Ideal.ieee]
  rw [← EReal.coe_mul]
  norm_num

/-- A small natural number, as a float, truncates to its word. -/
theorem fptosi_nat (n : ℕ) (h : n < 100) : FloatOps.fptosi (F := Ideal) (φ := .f32) 32 ((n : ℝ) : EReal) = BitVec.ofNat 32 n := by
  show Ideal.fptosi 32 _ = _
  rw [Ideal.fptosi]
  have : Ideal.toIntClamped (-(2 ^ (32 - 1) : Nat)) ((2 ^ (32 - 1) : Nat) - 1) ((n : ℝ) : EReal) = (n : ℤ) := by
    rw [Ideal.toIntClamped_coe, if_pos (Nat.cast_nonneg n), Int.floor_natCast]
    norm_num
    omega
  rw [this]
  rfl

/-- The number of the class, as the kernel computes it from numbers that stand for integers. -/
theorem class_apply (ca cb ra rb : ℤ) :
    FloatOps.fptosi (F := Ideal) (φ := .f32) 32 (if ((ca : ℝ) : EReal) = ((cb : ℝ) : EReal) then
      min (Ideal.ofBits .f32 1115684864#32) (max 0 (((ra : ℝ) : EReal) - ((rb : ℝ) : EReal) + Ideal.ofBits .f32 1107296256#32))
      else Ideal.ofBits .f32 1115815936#32 : EReal) = BitVec.ofNat 32 (Spec.cls ca cb ra rb) := by
  rw [bits32, bits64, bits65]
  by_cases h : ca = cb
  · subst h
    have e : min ((64 : ℝ) : EReal) (max 0 (((ra : ℝ) : EReal) - ((rb : ℝ) : EReal) + ((32 : ℝ) : EReal)))
        = ((Spec.cls ca ca ra rb : ℝ) : EReal) := by
      have e1 : ((Spec.cls ca ca ra rb : ℕ) : ℤ) = min 64 (max 0 (ra - rb + 32)) := by
        rw [Spec.cls, if_pos rfl, Int.toNat_of_nonneg (by omega)]
      have e2 : ((Spec.cls ca ca ra rb : ℕ) : ℝ) = min 64 (max 0 ((ra : ℝ) - rb + 32)) := by
        have := congrArg (fun z : ℤ => (z : ℝ)) e1
        push_cast at this
        exact this
      rw [e2, ← EReal.coe_sub, ← EReal.coe_add, ← EReal.coe_zero]
      exact (congrArg (min _) (EReal.coe_strictMono.monotone.map_max).symm).trans (EReal.coe_strictMono.monotone.map_min).symm
    rw [if_pos rfl, e, fptosi_nat _ (Spec.cls_lt ..)]
  · have h' : ((ca : ℝ) : EReal) ≠ ((cb : ℝ) : EReal) := fun e => h (by exact_mod_cast e)
    rw [if_neg h', Spec.cls, if_neg h]
    exact fptosi_nat 65 (by omega)

section Row

variable (x0 : Vec Ideal S1x2048x1 .i32) (x1 : Vec Ideal S1x2048x1 .f32) (x2 : Vec Ideal S1x32x17 .f32) (x3 : Vec Ideal S1x512x17 .f32)
  (x4 : Vec Ideal S66x16 .f32) (x5 : Vec Ideal S1x16 .f32) (x6 : Vec Ideal S416x128 .f32) (x7 x8 : Vec Ideal S1x128 .f32)
  (r : Fin 2048) (p : Fin 512)

/-- The group of the relative position. -/
theorem place_apply (hp : x0 (ix3 0 r 0) = BitVec.ofNat 32 p.val) (ca cb ra rb : ℤ)
    (hca : x2 (ix3 0 ⟨r.val / 64, by omega⟩ 15) = ((ca : ℝ) : EReal)) (hra : x2 (ix3 0 ⟨r.val / 64, by omega⟩ 16) = ((ra : ℝ) : EReal))
    (hcb : x3 (ix3 0 p 15) = ((cb : ℝ) : EReal)) (hrb : x3 (ix3 0 p 16) = ((rb : ℝ) : EReal)) (c : Fin 16) :
    k1_pay5 (F := Ideal) (k1_pay4 x0 x3 x2) x4 x5 (ix2 r c)
      = Spec.place (Spec.cls ca cb ra rb) (fun k c => x4 (ix2 k c)) (fun c => x5 (ix2 0 c)) c := by
  have h4 : ∀ k : Fin 66, k1_pay4 (F := Ideal) x0 x3 x2 (ix2 r k) = if Spec.cls ca cb ra rb = k.val then (1 : EReal) else 0 := by
    intro k
    pointwise [k1_pay4]
    rw [near_apply x0 x3 r p hp, near_apply x0 x3 r p hp, own_apply, own_apply, hca, hra, hcb, hrb, hot, class_apply]
    simp only [KnnBlock.ofNat_eq_iff _ _ (lt_trans (Spec.cls_lt ..) (by omega)) (lt_trans k.isLt (by omega))]
  pointwise [k1_pay5, h4]
  rfl

/-- A row of the block. -/
theorem row_apply (hp : x0 (ix3 0 r 0) = BitVec.ofNat 32 p.val) (ca cb ra rb : ℤ)
    (hca : x2 (ix3 0 ⟨r.val / 64, by omega⟩ 15) = ((ca : ℝ) : EReal)) (hra : x2 (ix3 0 ⟨r.val / 64, by omega⟩ 16) = ((ra : ℝ) : EReal))
    (hcb : x3 (ix3 0 p 15) = ((cb : ℝ) : EReal)) (hrb : x3 (ix3 0 p 16) = ((rb : ℝ) : EReal))
    (u w : Fin 5 → Fin 3 → EReal)
    (hu : ∀ a k, x2 (ix3 0 ⟨r.val / 64, by omega⟩ ⟨3 * a.val + k.val, by omega⟩) = u a k)
    (hw : ∀ a k, x3 (ix3 0 p ⟨3 * a.val + k.val, by omega⟩) = w a k) (f : Fin 128) :
    out1_9 (F := Ideal) x0 x1 x2 x3 x4 x5 x6 x7 x8 (ix3 0 r f)
      = Spec.normed (Spec.edge
          (Spec.feat (Spec.place (Spec.cls ca cb ra rb) (fun k c => x4 (ix2 k c)) (fun c => x5 (ix2 0 c))) (x1 (ix3 0 r 0)) u w)
          (fun j f => x6 (ix2 j f))) (fun f => x7 (ix2 0 f)) (fun f => x8 (ix2 0 f)) f := by
  have hu' : ∀ a, trio (k1_pay3 (F := Ideal) x2) r a = u a := by
    intro a; funext k
    rw [trio, own_apply, hu]
  have hw' : ∀ a, trio (k1_pay2 (F := Ideal) x0 x3) r a = w a := by
    intro a; funext k
    rw [trio, near_apply x0 x3 r p hp, hw]
  have hx : (fun j => beside (groups (k1_pay5 (k1_pay4 x0 x3 x2) x4 x5) (k1_pay6 x1) (k1_pay2 x0 x3) (k1_pay3 x2)) (ix2 r j))
      = Spec.feat (Spec.place (Spec.cls ca cb ra rb) (fun k c => x4 (ix2 k c)) (fun c => x5 (ix2 0 c))) (x1 (ix3 0 r 0)) u w := by
    funext j
    rw [beside_apply, Spec.feat, Spec.group, groups]
    split_ifs
    · exact place_apply x0 x2 x3 x4 x5 r p hp ca cb ra rb hca hra hcb hrb _
    · exact dist_apply x1 r _
    · rw [pairs_apply, hu', hw']
  rw [out_eq]
  simp only []
  rw [out_apply]
  simp only [weighed_apply]
  rw [hx]

end Row

end Cert.Proof.FeatRows
-- ==== Proof.FeatArrays.lean ====
/-
  The feature region's array: rows `2048 g` to `2048 g + 2047` of batch `b` are the block that the body makes of that
  stretch of positions and distances, of residues `32 g` to `32 g + 31`, and of the batch's whole table.
-/
module

public import proofs.«01_k».proof.Proof.FeatRows
public import proofs.«01_k».proof.Proof.Gen.KernelIdeal.Points
public import Idealize.ShloMosaic.Lib.Pipeline.ValueKit

@[expose] public section

set_option maxRecDepth 16384

noncomputable section

namespace Cert.Proof.FeatArrays

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Which block of each array an iteration point reads or writes. -/
theorem idx : ∀ t : Fin cfg1.N, (win1_0.index t = ![(grid1.coords t 0).val, (grid1.coords t 1).val, 0]
    ∧ win1_1.index t = ![(grid1.coords t 0).val, (grid1.coords t 1).val, 0]
    ∧ win1_2.index t = ![(grid1.coords t 0).val, (grid1.coords t 1).val, 0] ∧ win1_3.index t = ![(grid1.coords t 0).val, 0, 0])
    ∧ (win1_4.index t = ![0, 0] ∧ win1_5.index t = ![0, 0] ∧ win1_6.index t = ![0, 0] ∧ win1_7.index t = ![0, 0] ∧ win1_8.index t = ![0, 0])
    ∧ win1_9.index t = ![(grid1.coords t 0).val, (grid1.coords t 1).val, 0] :=
  (by decide +kernel : ∀ t : Fin grid1.N, _)

/-- A stretch of positions. -/
abbrev posn (b : Fin 4) (g : Fin 16) : Vec Ideal S1x2048x1 .i32 :=
  fun y => V c main_v28 (ix3 b (⟨2048 * g.val + (y 1).val, by have := (y 1).isLt; have h : (y 1).val < 2048 := this; omega⟩ : Fin 32768) (0 : Fin 1))

/-- A stretch of distances. -/
abbrev dist (b : Fin 4) (g : Fin 16) : Vec Ideal S1x2048x1 .f32 :=
  fun y => V c main_v29 (ix3 b (⟨2048 * g.val + (y 1).val, by have := (y 1).isLt; have h : (y 1).val < 2048 := this; omega⟩ : Fin 32768) (0 : Fin 1))

/-- A stretch of residues of the table. -/
abbrev own (b : Fin 4) (g : Fin 16) : Vec Ideal S1x32x17 .f32 :=
  fun y => V c main_v25 (ix3 b (⟨32 * g.val + (y 1).val, by have := (y 1).isLt; have h : (y 1).val < 32 := this; omega⟩ : Fin 512) (y 2))

/-- A batch of the table. -/
abbrev all (b : Fin 4) : Vec Ideal S1x512x17 .f32 := fun y => V c main_v25 (ix3 b (y 1) (y 2))

/-- The positions an iteration point reads. -/
theorem iblk_0 (t : Fin cfg1.N) : iblk1 V c 0 t = posn V c (grid1.coords t 0) (grid1.coords t 1) := by
  funext y
  unfold posn
  blk_ext [iblk1, (idx t).1]
/-- The distances an iteration point reads. -/
theorem iblk_1 (t : Fin cfg1.N) : iblk1 V c 1 t = dist V c (grid1.coords t 0) (grid1.coords t 1) := by
  funext y
  unfold dist
  blk_ext [iblk1, (idx t).1]
/-- The table rows of its own residues that an iteration point reads. -/
theorem iblk_2 (t : Fin cfg1.N) : iblk1 V c 2 t = own V c (grid1.coords t 0) (grid1.coords t 1) := by
  funext y
  unfold own
  blk_ext [iblk1, (idx t).1]
/-- The table rows of all residues of the batch that an iteration point reads. -/
theorem iblk_3 (t : Fin cfg1.N) : iblk1 V c 3 t = all V c (grid1.coords t 0) := by
  funext y
  unfold all
  blk_ext [iblk1, (idx t).1]
/-- The class weights, read whole. -/
theorem iblk_4 (t : Fin cfg1.N) : iblk1 V c 4 t = V c main_arg4 := by
  funext y
  blk_ext [iblk1, (idx t).2.1]
/-- The class bias, read whole. -/
theorem iblk_5 (t : Fin cfg1.N) : iblk1 V c 5 t = V c main_v30 := by
  funext y
  blk_ext [iblk1, (idx t).2.1]
/-- The edge weights, read whole. -/
theorem iblk_6 (t : Fin cfg1.N) : iblk1 V c 6 t = V c main_arg6 := by
  funext y
  blk_ext [iblk1, (idx t).2.1]
/-- The scale, read whole. -/
theorem iblk_7 (t : Fin cfg1.N) : iblk1 V c 7 t = V c main_v31 := by
  funext y
  blk_ext [iblk1, (idx t).2.1]
/-- The shift, read whole. -/
theorem iblk_8 (t : Fin cfg1.N) : iblk1 V c 8 t = V c main_v32 := by
  funext y
  blk_ext [iblk1, (idx t).2.1]

/-- The block that the body makes of a stretch. -/
def block (b : Fin 4) (g : Fin 16) : Vec Ideal S1x2048x128 .f32 :=
  out1_9 (F := Ideal) (posn V c b g) (dist V c b g) (own V c b g) (all V c b) (V c main_arg4) (V c main_v30) (V c main_arg6)
    (V c main_v31) (V c main_v32)

attribute [local irreducible] out1_9

/-- The array of edge features, by its index. -/
def edges : S4x32768x128.Idx → EReal := fun i =>
  block V c (i 0) ⟨(i 1).val / 2048, by have := (i 1).isLt; have h : (i 1).val < 32768 := this; omega⟩
    (ix3 (0 : Fin 1) (⟨(i 1).val % 2048, by omega⟩ : Fin 2048) (i 2))

/-- A row of the assembled edge features, by batch, block and row within the block. -/
theorem edges_at (b : Fin 4) (g : Fin 16) (y : Fin 2048) (f : Fin 128) :
    edges V c (ix3 b ⟨2048 * g.val + y.val, by omega⟩ f) = block V c b g (ix3 0 y f) := by
  have e1 : (⟨(2048 * g.val + y.val) / 2048, by omega⟩ : Fin 16) = g := Fin.ext (by simp only []; omega)
  have e2 : (⟨(2048 * g.val + y.val) % 2048, by omega⟩ : Fin 2048) = y := Fin.ext (by simp only []; omega)
  show block V c b ⟨(2048 * g.val + y.val) / 2048, _⟩ (ix3 0 ⟨(2048 * g.val + y.val) % 2048, _⟩ f) = _
  rw [e1, e2]

/-- The array of edge features. -/
theorem edge_arr : (dat1 V c).arrAt 9 cfg1.N = edges V c := by
  refine (dat1 V c).arrAt_eq_of_covers 9 _ (by decide +kernel) fun t hf y => ?_
  blk_simp
  rw [after1_9, iblk_0, iblk_1, iblk_2, iblk_3, iblk_4, iblk_5, iblk_6, iblk_7, iblk_8]
  idx_vars y
  have h1 : (grid1.coords t 1).val < 16 := (grid1.coords t 1).isLt
  have e : (win1_9.blk t).view.emb (ix3 y0 y1 y2)
      = (ix3 (grid1.coords t 0) ⟨2048 * (grid1.coords t 1).val + y1.val, by omega⟩ y2 : S4x32768x128.Idx) := by
    blk_ext [(idx t).2.2]
  have e0 : y0 = 0 := Subsingleton.elim _ _
  subst e0
  show block V c (grid1.coords t 0) (grid1.coords t 1) (ix3 0 y1 y2) = _
  exact (edges_at V c _ _ y1 y2).symm.trans (congrArg (edges V c) e.symm)

end Cert.Proof.FeatArrays
-- ==== Proof.KnnArrays.lean ====
/-
  The neighbour region's two arrays: batch `b` of each is the final state of the rounds over batch `b` of the points
  and of their columns.
-/
module

public import proofs.«01_k».proof.Proof.KnnBlock
public import proofs.«01_k».proof.Proof.Gen.KernelIdeal.Points
public import Idealize.ShloMosaic.Lib.Pipeline.ValueKit

@[expose] public section

set_option maxRecDepth 16384

noncomputable section

namespace Cert.Proof.KnnArrays

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Which block of each array an iteration point reads or writes. -/
theorem idx : ∀ t : Fin cfg0.N, win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0] :=
  (by decide +kernel : ∀ t : Fin grid0.N, _)

/-- Batch `b` of the points' array, as the body reads it. -/
abbrev pts (b : Fin 4) : Vec Ideal S1x512x3 .f32 := fun y => V c main_v3 (ix3 b (y 1) (y 2))

/-- Batch `b` of the columns' array, as the body reads it. -/
abbrev cols (b : Fin 4) : Vec Ideal S1x3x512 .f32 := fun y => V c main_v26 (ix3 b (y 1) (y 2))

/-- The points an iteration point reads are those of its batch. -/
theorem iblk_pts (t : Fin cfg0.N) : iblk0 V c 0 t = pts V c (grid0.coords t 0) := by
  funext y
  unfold pts
  blk_ext [iblk0, idx t]

/-- The transposed points an iteration point reads are those of its batch. -/
theorem iblk_cols (t : Fin cfg0.N) : iblk0 V c 1 t = cols V c (grid0.coords t 0) := by
  funext y
  unfold cols
  blk_ext [iblk0, idx t]

/-- The array of distances. -/
theorem dist_arr : (dat0 V c).arrAt 2 cfg0.N
    = fun i : S4x512x64.Idx => (KnnBlock.final (pts V c (i 0)) (cols V c (i 0))).2.1 (ix2 (i 1) (i 2)) := by
  refine (dat0 V c).arrAt_eq_of_covers 2 _ (by decide +kernel) fun t hf y => ?_
  blk_simp
  rw [after0_2]
  unfold outsAt0
  dsimp only
  rw [KnnBlock.out2_eq, iblk_pts, iblk_cols]
  idx_vars y
  have e : (win0_2.blk t).view.emb (ix3 y0 y1 y2) = (ix3 (grid0.coords t 0) y1 y2 : S4x512x64.Idx) := by
    blk_ext [idx t]
  pointwise [k0_pay11]
  blk_simp [e]
  rfl

/-- The array of positions. -/
theorem pos_arr : (dat0 V c).arrAt 3 cfg0.N
    = fun i : S4x512x64.Idx => (KnnBlock.final (pts V c (i 0)) (cols V c (i 0))).2.2 (ix2 (i 1) (i 2)) := by
  refine (dat0 V c).arrAt_eq_of_covers 3 _ (by decide +kernel) fun t hf y => ?_
  blk_simp
  rw [after0_3]
  unfold outsAt0
  dsimp only
  rw [KnnBlock.out3_eq, iblk_pts, iblk_cols]
  idx_vars y
  have e : (win0_3.blk t).view.emb (ix3 y0 y1 y2) = (ix3 (grid0.coords t 0) y1 y2 : S4x512x64.Idx) := by
    blk_ext [idx t]
  pointwise [k0_pay1]
  blk_simp [e]
  rfl

end Cert.Proof.KnnArrays
-- ==== Proof.KernelRun.lean ====
/- The kernel's run with its two results read: every argument ends as launched, and each result is what the last
   boundary of the program holds. -/
module

public import proofs.«01_k».proof.Proof.Gen.KernelIdeal.Frame

@[expose] public section

noncomputable section

namespace Cert.Proof.KernelRun

open Cert.KernelIdeal Cert.KernelIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters the kernel runs to its end, every buffer outside the regions' scopes holding
    what the last boundary's fold holds for it. -/
theorem run_W7 : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hheld, Hreg, Howe⟩
      isplitl [Hheld Hreg]
      · isplitl [Hheld]
        · iexact Hheld
        · iexact Hreg
      · iexact Howe⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howe, -, Hreg, -⟩, -⟩
      imodintro
      isplitl [Hheld]
      · iexact Hheld
      isplitl [Hreg]
      · iexists _
        iexact Hreg
      · iexists ∅
        iexact Howe)
    (QY := fun c s => ∀ b ∈ Pipeline.ucRefs τ sig, s.mem (((c : Thread nD τ)).1, b) = W7 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W7 m ρ c) s')
      isplitl [Hheld] <;> iassumption)
    (hQ := fun _ h _ => h)

/-- The same at the two results and the nine arguments. -/
theorem run : θ_run defs (onTc (τ := τ) (main (F := F))) ⟨m, fun _ => 0, ρ⟩ (fun r => ∀ c : Dev nD,
      r.2.mem ((c.tc : Thread nD τ).loc main_v34) = W7 m ρ c (Proc.devRef .tc main_v34)
      ∧ r.2.mem ((c.tc : Thread nD τ).loc main_v27_1) = W7 m ρ c (Proc.devRef .tc main_v27_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v34 (by decide)), h c _ (mem_uc main_v27_1 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_W7 m ρ)

end Cert.Proof.KernelRun
-- ==== Proof.KernelVals.lean ====
/-
  What the kernel's two result buffers hold at its end, by coordinates, where every distance is below the greatest number
  of the format: the formulas of Answer.lean.
-/
module

public import proofs.«01_k».proof.Proof.Answer
public import proofs.«01_k».proof.Proof.FeatArrays
public import proofs.«01_k».proof.Proof.KnnArrays
public import proofs.«01_k».proof.Proof.KernelRun
public import Idealize.ShloMosaic.Lib.StableHlo.RunRead

@[expose] public section

set_option maxRecDepth 16384

noncomputable section

namespace Cert.Proof.KernelVals

open Cert.KernelIdeal Cert.KernelIdeal.Gen
open Idealize.SL Idealize.SL.RA Idealize.SL.BI Idealize.SL.Sem
open Idealize.ShloMosaic Idealize.ShloMosaic.TcCoe Idealize.ShloMosaic.Rounds Idealize.ShloMosaic.StableHlo
open Cert.Proof.HostTable (atom)

/-! ## The reshapes -/

/-- The reshape to one row per residue and neighbour, by coordinates. -/
theorem flat_apply {α : Type} (x : S4x512x64.Idx → α) (b : Fin 4) (l : Fin 512) (j : Fin 64) (n : Fin 32768) (hn : n.val = l.val * 64 + j.val) :
    shapeCast S4x32768x1 x shapeCasts_S4x512x64_S4x32768x1 (ix3 b n 0) = x (ix3 b l j) := by
  pointwise []
  congr 1
  congr 1 <;> apply Fin.ext <;> dsimp only <;> omega

/-- The reshape back, by coordinates. -/
theorem unflat_apply {α : Type} (x : S4x32768x128.Idx → α) (b : Fin 4) (l : Fin 512) (j : Fin 64) (f : Fin 128) (n : Fin 32768)
    (hn : n.val = l.val * 64 + j.val) :
    shapeCast S4x512x64x128 x shapeCasts_S4x32768x128_S4x512x64x128 (ix4 b l j f) = x (ix3 b n f) := by
  pointwise []
  congr 1
  congr 1 <;> apply Fin.ext <;> dsimp only <;> omega

/-! ## The host lines between -/

section Lines

variable (V : Valuation τ sig (Elt Ideal))

/-- The host code between the calls leaves the positions, reshaped, in their buffer. -/
theorem line1_v28 : StableHlo.after hostOps1 V (Proc.devRef .tc main_v28)
    = shapeCast S4x32768x1 (V (Proc.devRef .tc main_v27_1)) shapeCasts_S4x512x64_S4x32768x1 := by
  after_reads_simp
  rfl
/-- It leaves the distances, reshaped, in theirs. -/
theorem line1_v29 : StableHlo.after hostOps1 V (Proc.devRef .tc main_v29)
    = shapeCast S4x32768x1 (V (Proc.devRef .tc main_v27_0)) shapeCasts_S4x512x64_S4x32768x1 := by
  after_reads_simp
  rfl
/-- It leaves the class bias, reshaped, in its buffer. -/
theorem line1_v30 : StableHlo.after hostOps1 V (Proc.devRef .tc main_v30)
    = shapeCast S1x16 (V (Proc.devRef .tc main_arg5)) shapeCasts_S16_S1x16 := by
  after_reads_simp
  rfl
/-- It leaves the scale, reshaped, in its buffer. -/
theorem line1_v31 : StableHlo.after hostOps1 V (Proc.devRef .tc main_v31)
    = shapeCast S1x128 (V (Proc.devRef .tc main_arg7)) shapeCasts_S128_S1x128 := by
  after_reads_simp
  rfl
/-- It leaves the shift, reshaped, in its buffer. -/
theorem line1_v32 : StableHlo.after hostOps1 V (Proc.devRef .tc main_v32)
    = shapeCast S1x128 (V (Proc.devRef .tc main_arg8)) shapeCasts_S128_S1x128 := by
  after_reads_simp
  rfl
/-- The host code after the second call leaves the edge features, reshaped, in the result's buffer. -/
theorem line2_v34 : StableHlo.after hostOps2 V (Proc.devRef .tc main_v34)
    = shapeCast S4x512x64x128 (V (Proc.devRef .tc main_v33)) shapeCasts_S4x32768x128_S4x512x64x128 := by
  after_reads_simp
  rfl

end Lines

/-! ## The region's arrays -/

variable (m : (ℓ : Loc nD τ sig) → Buf (Elt Ideal) ℓ) (ρ : Dev nD → PrngReg) (c : Dev nD)

/-- The arguments. -/
abbrev A0 : FVec Ideal S4x512x4x3 .f32 := m ((c.tc : Thread nD τ).loc main_arg0)
/-- The residues' numbers. -/
abbrev A2 : IVec S4x512 32 := m ((c.tc : Thread nD τ).loc main_arg2)
/-- The chains. -/
abbrev A3 : IVec S4x512 32 := m ((c.tc : Thread nD τ).loc main_arg3)
/-- The class weights. -/
abbrev A4 : FVec Ideal S66x16 .f32 := m ((c.tc : Thread nD τ).loc main_arg4)
/-- The class bias. -/
abbrev A5 : FVec Ideal S16 .f32 := m ((c.tc : Thread nD τ).loc main_arg5)
/-- The edge weights. -/
abbrev A6 : FVec Ideal S416x128 .f32 := m ((c.tc : Thread nD τ).loc main_arg6)
/-- The scale. -/
abbrev A7 : FVec Ideal S128 .f32 := m ((c.tc : Thread nD τ).loc main_arg7)
/-- The shift. -/
abbrev A8 : FVec Ideal S128 .f32 := m ((c.tc : Thread nD τ).loc main_arg8)

/-- The distances the first call computes of a residue are its gaps to all residues. -/
theorem dist_eq (b : Fin 4) (l : Fin 512) :
    KnnBlock.dist (KnnArrays.pts (V3 m ρ) c b) (KnnArrays.cols (V3 m ρ) c b) l = Answer.gap (A0 m c) b l := by
  funext k
  unfold KnnBlock.dist
  pointwise [k0_pay2]
  unfold KnnArrays.pts KnnArrays.cols
  rw [HostTable.V3_ca, HostTable.V3_caT]
  pointwise [HostTable.caAt_apply]
  unfold Answer.gap Spec.apart
  rw [Fin.sum_univ_three]
  rfl

section Results

variable (hbig : ∀ b l k, Answer.gap (A0 m c) b l k < KnnBlock.big)

/-- After the first call the second result's buffer holds the neighbours' positions. -/
theorem W4_pos (b : Fin 4) (l : Fin 512) (j : Fin 64) :
    (W4 m ρ c (Proc.devRef .tc main_v27_1) : S4x512x64.Idx → BitVec 32) (ix3 b l j) = BitVec.ofNat 32 (Answer.near (A0 m c) b l j).val := by
  have h : (W4 m ρ c (Proc.devRef .tc main_v27_1) : S4x512x64.Idx → BitVec 32) (ix3 b l j)
      = (KnnBlock.final (KnnArrays.pts (V3 m ρ) c b) (KnnArrays.cols (V3 m ρ) c b)).2.2 (ix2 l j) :=
    congrFun ((W4_arr m ρ c 3).trans (KnnArrays.pos_arr (V3 m ρ) c)) (ix3 b l j)
  refine h.trans ?_
  refine (KnnBlock.final_pos _ _ l j).trans ?_
  rw [dist_eq]
  rfl

include hbig in
/-- After the first call the distances' buffer holds the gaps to the neighbours. -/
theorem W4_dist (b : Fin 4) (l : Fin 512) (j : Fin 64) :
    (W4 m ρ c (Proc.devRef .tc main_v27_0) : S4x512x64.Idx → EReal) (ix3 b l j)
      = Answer.gap (A0 m c) b l (Answer.near (A0 m c) b l j) := by
  have h : (W4 m ρ c (Proc.devRef .tc main_v27_0) : S4x512x64.Idx → EReal) (ix3 b l j)
      = (KnnBlock.final (KnnArrays.pts (V3 m ρ) c b) (KnnArrays.cols (V3 m ρ) c b)).2.1 (ix2 l j) :=
    congrFun ((W4_arr m ρ c 2).trans (KnnArrays.dist_arr (V3 m ρ) c)) (ix3 b l j)
  refine h.trans ?_
  refine (KnnBlock.final_dist _ _ l j (by rw [dist_eq]; exact hbig b l)).trans ?_
  rw [dist_eq]
  rfl

/-- The positions at the end. -/
theorem pos_end (b : Fin 4) (l : Fin 512) (j : Fin 64) :
    (W7 m ρ c (Proc.devRef .tc main_v27_1) : S4x512x64.Idx → BitVec 32) (ix3 b l j) = BitVec.ofNat 32 (Answer.near (A0 m c) b l j).val := by
  rw [W7_of m ρ c main_v27_1 (by decide), W6_of_ne m ρ c main_v27_1 (by decide), W5_of m ρ c main_v27_1 (by decide)]
  exact W4_pos m ρ c b l j

/-- At the second call the table's buffer holds the table of the arguments. -/
theorem V5_table : V5 m ρ c main_v25 = HostTable.table (A0 m c) (A2 m c) (A3 m c) := by
  show W5 m ρ c _ = _
  rw [W5_of m ρ c main_v25 (by decide), W4_of_ne m ρ c main_v25 (by decide), HostTable.W3_table]

/-- At the second call the class weights are as launched. -/
theorem V5_arg4 : V5 m ρ c main_arg4 = A4 m c := W5_args m ρ c main_arg4 (by decide)
/-- At the second call the edge weights are as launched. -/
theorem V5_arg6 : V5 m ρ c main_arg6 = A6 m c := W5_args m ρ c main_arg6 (by decide)
/-- At the second call the bias's buffer holds the class bias. -/
theorem V5_pb (k : Fin 16) : (V5 m ρ c main_v30 : S1x16.Idx → EReal) (ix2 0 k) = A5 m c (ix1 k) := by
  show (after hostOps1 (W4 m ρ c) (Proc.devRef .tc main_v30) : S1x16.Idx → EReal) _ = _
  rw [line1_v30, W4_args m ρ c main_arg5 (by decide)]
  pointwise []
/-- At the second call the scale's buffer holds the scale. -/
theorem V5_g (k : Fin 128) : (V5 m ρ c main_v31 : S1x128.Idx → EReal) (ix2 0 k) = A7 m c (ix1 k) := by
  show (after hostOps1 (W4 m ρ c) (Proc.devRef .tc main_v31) : S1x128.Idx → EReal) _ = _
  rw [line1_v31, W4_args m ρ c main_arg7 (by decide)]
  pointwise []
/-- At the second call the shift's buffer holds the shift. -/
theorem V5_b (k : Fin 128) : (V5 m ρ c main_v32 : S1x128.Idx → EReal) (ix2 0 k) = A8 m c (ix1 k) := by
  show (after hostOps1 (W4 m ρ c) (Proc.devRef .tc main_v32) : S1x128.Idx → EReal) _ = _
  rw [line1_v32, W4_args m ρ c main_arg8 (by decide)]
  pointwise []
/-- At the second call the positions' buffer holds the neighbours' positions. -/
theorem V5_pos (b : Fin 4) (l : Fin 512) (j : Fin 64) (n : Fin 32768) (hn : n.val = l.val * 64 + j.val) :
    (V5 m ρ c main_v28 : S4x32768x1.Idx → BitVec 32) (ix3 b n 0) = BitVec.ofNat 32 (Answer.near (A0 m c) b l j).val := by
  show (after hostOps1 (W4 m ρ c) (Proc.devRef .tc main_v28) : S4x32768x1.Idx → BitVec 32) _ = _
  rw [line1_v28]
  exact (flat_apply _ b l j n hn).trans (W4_pos m ρ c b l j)
include hbig in
/-- At the second call the distances' buffer holds the gaps to the neighbours. -/
theorem V5_dist (b : Fin 4) (l : Fin 512) (j : Fin 64) (n : Fin 32768) (hn : n.val = l.val * 64 + j.val) :
    (V5 m ρ c main_v29 : S4x32768x1.Idx → EReal) (ix3 b n 0) = Answer.gap (A0 m c) b l (Answer.near (A0 m c) b l j) := by
  show (after hostOps1 (W4 m ρ c) (Proc.devRef .tc main_v29) : S4x32768x1.Idx → EReal) _ = _
  rw [line1_v29]
  exact (flat_apply _ b l j n hn).trans (W4_dist m ρ c hbig b l j)

include hbig in
/-- The edge features at the end. -/
theorem edge_end (b : Fin 4) (l : Fin 512) (j : Fin 64) (f : Fin 128) :
    (W7 m ρ c (Proc.devRef .tc main_v34) : S4x512x64x128.Idx → EReal) (ix4 b l j f)
      = Answer.result (A0 m c) (A2 m c) (A3 m c) (A4 m c) (A5 m c) (A6 m c) (A7 m c) (A8 m c) b l j f := by
  have hg : l.val / 32 < 16 := by omega
  have hy : l.val % 32 * 64 + j.val < 2048 := by omega
  have h6 : (W6 m ρ c (Proc.devRef .tc main_v33) : S4x32768x128.Idx → EReal) = FeatArrays.edges (V5 m ρ) c :=
    (W6_arr m ρ c 9).trans (FeatArrays.edge_arr (V5 m ρ) c)
  show (after hostOps2 (W6 m ρ c) (Proc.devRef .tc main_v34) : S4x512x64x128.Idx → EReal) _ = _
  rw [line2_v34]
  refine (unflat_apply _ b l j f ⟨2048 * (⟨l.val / 32, hg⟩ : Fin 16).val + (⟨l.val % 32 * 64 + j.val, hy⟩ : Fin 2048).val, by simp only []; omega⟩
    (by simp only []; omega)).trans ?_
  rw [h6, FeatArrays.edges_at]
  have hl : (⟨(l.val % 32 * 64 + j.val) / 64, by omega⟩ : Fin 32) = ⟨l.val % 32, by omega⟩ := Fin.ext (by simp only []; omega)
  have hown : ∀ k : Fin 17, FeatArrays.own (V5 m ρ) c b ⟨l.val / 32, hg⟩ (ix3 0 ⟨l.val % 32, by omega⟩ k)
      = HostTable.table (A0 m c) (A2 m c) (A3 m c) (ix3 b l k) := by
    intro k
    show (V5 m ρ c main_v25 : S4x512x17.Idx → EReal) (ix3 b ⟨32 * (l.val / 32) + l.val % 32, by omega⟩ k) = _
    rw [V5_table, show (⟨32 * (l.val / 32) + l.val % 32, by omega⟩ : Fin 512) = l from Fin.ext (by simp only []; omega)]
  have hall : ∀ (p : Fin 512) (k : Fin 17), FeatArrays.all (V5 m ρ) c b (ix3 0 p k)
      = HostTable.table (A0 m c) (A2 m c) (A3 m c) (ix3 b p k) := by
    intro p k
    unfold FeatArrays.all
    rw [V5_table]
    rfl
  have hpos : FeatArrays.posn (V5 m ρ) c b ⟨l.val / 32, hg⟩ (ix3 0 ⟨l.val % 32 * 64 + j.val, hy⟩ 0)
      = BitVec.ofNat 32 (Answer.near (A0 m c) b l j).val :=
    V5_pos m ρ c b l j ⟨2048 * (l.val / 32) + (l.val % 32 * 64 + j.val), by omega⟩ (by simp only []; omega)
  have hdist : FeatArrays.dist (V5 m ρ) c b ⟨l.val / 32, hg⟩ (ix3 0 ⟨l.val % 32 * 64 + j.val, hy⟩ 0)
      = Answer.gap (A0 m c) b l (Answer.near (A0 m c) b l j) :=
    V5_dist m ρ c hbig b l j ⟨2048 * (l.val / 32) + (l.val % 32 * 64 + j.val), by omega⟩ (by simp only []; omega)
  unfold FeatArrays.block
  rw [FeatRows.row_apply _ _ _ _ _ _ _ _ _ ⟨l.val % 32 * 64 + j.val, hy⟩ (Answer.near (A0 m c) b l j)
    hpos
    (A3 m c (ix2 b l)).toInt (A3 m c (ix2 b (Answer.near (A0 m c) b l j))).toInt
    (A2 m c (ix2 b l)).toInt (A2 m c (ix2 b (Answer.near (A0 m c) b l j))).toInt
    (by rw [hl, hown, HostTable.table_chain]) (by rw [hl, hown, HostTable.table_res])
    (by rw [hall, HostTable.table_chain]) (by rw [hall, HostTable.table_res])
    (atom (A0 m c) b l) (atom (A0 m c) b (Answer.near (A0 m c) b l j))
    (fun a k => by rw [hl, hown, HostTable.table_atom _ _ _ _ _ a k _ rfl])
    (fun a k => by rw [hall, HostTable.table_atom _ _ _ _ _ a k _ rfl])]
  rw [hdist, V5_arg4, V5_arg6, funext (V5_pb m ρ c), funext (V5_g m ρ c), funext (V5_b m ρ c)]
  rfl

end Results

end Cert.Proof.KernelVals
-- ==== Proof.RefAtoms.lean ====
/-
  The reference's atoms: the four of the array, the fifth from its formula, the 24 pairs, and the distances of the
  residues and of the pairs.
-/
module

public import proofs.«01_k».proof.Proof.Answer
public import proofs.«01_k».proof.Proof.Gen.ReferenceIdeal.Read
public import Idealize.ShloMosaic.Lib.Pointwise

@[expose] public section

set_option maxRecDepth 16384

noncomputable section

namespace Cert.Proof.RefAtoms

open Cert.ReferenceIdeal Cert.ReferenceIdeal.Gen Cert.ReferenceIdeal.Read
open Idealize.ShloMosaic Idealize.ShloMosaic.TcCoe
open Cert.Proof.HostTable (atom cbCoord)

variable (X : FVec Ideal S4x512x4x3 .f32) (b : Fin 4) (l : Fin 512) (k : Fin 3)

/-- The reference's first atoms. -/
theorem v1_apply : val_main_v1 (F := Ideal) X (ix3 b l k) = X (ix4 b l 0 k) := by pointwise [val_main_v1, val_main_v0]
/-- Its second atoms. -/
theorem v3_apply : val_main_v3 (F := Ideal) X (ix3 b l k) = X (ix4 b l 1 k) := by pointwise [val_main_v3, val_main_v2]
/-- Its third atoms. -/
theorem v5_apply : val_main_v5 (F := Ideal) X (ix3 b l k) = X (ix4 b l 2 k) := by pointwise [val_main_v5, val_main_v4]
/-- Its fourth atoms. -/
theorem v7_apply : val_main_v7 (F := Ideal) X (ix3 b l k) = X (ix4 b l 3 k) := by pointwise [val_main_v7, val_main_v6]

/-- Its fifth atoms. -/
theorem v55_apply : val_main_v55 (F := Ideal) X (ix3 b l k) = cbCoord (fun a k => X (ix4 b l a k)) k := by
  rcases (by omega : k = 0 ∨ k = 1 ∨ k = 2) with rfl | rfl | rfl
  all_goals
    pointwise [val_main_v55, val_main_v54, val_main_v53, val_main_v52, val_main_cst_1, val_main_v51, val_main_v50, val_main_v49,
      val_main_cst_0, val_main_v48, val_main_v47, val_main_cst, val_main_v46, val_main_v45, val_main_v44, val_main_v43, val_main_v42,
      val_main_v41, val_main_v40, val_main_v39, val_main_v38, val_main_v37, val_main_v36, val_main_v35, val_main_v34, val_main_v33,
      val_main_v32, val_main_v31, val_main_v30, val_main_v29, val_main_v28, val_main_v27, val_main_v26, val_main_v25, val_main_v24,
      val_main_v23, val_main_v22, val_main_v21, val_main_v20, val_main_v19, val_main_v18, val_main_v17, val_main_v16, val_main_v15,
      val_main_v14, val_main_v13, val_main_v12, val_main_v11, val_main_v10, val_main_v9, val_main_v8, v1_apply, v3_apply, v5_apply]
    rfl

/-- The distance of two residues. -/
theorem v70_apply (p : Fin 512) : val_main_v70 (F := Ideal) X (ix3 b l p) = Answer.gap X b l p := by
  pointwise [val_main_v70, val_main_v69, val_main_v68, val_main_cst_3, val_main_v67, val_main_cst_2, val_main_v66, val_main_v65,
    val_main_v64, val_main_v63, val_main_v62, val_main_v61, v3_apply]
  rfl

/-- Atom 0 is the first atom of the argument. -/
theorem atom0 : atom X b l 0 k = X (ix4 b l 0 k) := rfl
/-- Atom 1 is the second. -/
theorem atom1 : atom X b l 1 k = X (ix4 b l 1 k) := rfl
/-- Atom 2 is the third. -/
theorem atom2 : atom X b l 2 k = X (ix4 b l 2 k) := rfl
/-- Atom 3 is the fourth. -/
theorem atom3 : atom X b l 3 k = X (ix4 b l 3 k) := rfl
/-- Atom 4 is the one computed from the first three. -/
theorem atom4 : atom X b l 4 k = cbCoord (fun a k => X (ix4 b l a k)) k := rfl

/-- The residue's atom of each pair. -/
theorem v107_apply (q : Fin 24) : val_main_v107 (F := Ideal) X (ix4 b l q k) = atom X b l (Spec.left q) k := by
  · pointwise [val_main_v107, val_main_v106, val_main_v105, val_main_v104, val_main_v103, val_main_v102, val_main_v101,
      val_main_v100, val_main_v99, val_main_v98, val_main_v97, val_main_v96, val_main_v95, val_main_v94, val_main_v93,
      val_main_v92, val_main_v91, val_main_v90, val_main_v89, val_main_v88, val_main_v87, val_main_v86, val_main_v85,
      val_main_v84, val_main_v83, val_main_v82, val_main_v81,
      v1_apply, v3_apply, v5_apply, v7_apply, v55_apply]
    obtain ⟨q, hq⟩ := q
    interval_cases q <;> rfl

/-- The neighbour's atom of each pair. -/
theorem v134_apply (q : Fin 24) : val_main_v134 (F := Ideal) X (ix4 b l q k) = atom X b l (Spec.right q) k := by
  · pointwise [val_main_v134, val_main_v133, val_main_v132, val_main_v131, val_main_v130, val_main_v129, val_main_v128,
      val_main_v127, val_main_v126, val_main_v125, val_main_v124, val_main_v123, val_main_v122, val_main_v121,
      val_main_v120, val_main_v119, val_main_v118, val_main_v117, val_main_v116, val_main_v115, val_main_v114,
      val_main_v113, val_main_v112, val_main_v111, val_main_v110, val_main_v109, val_main_v108,
      v1_apply, v3_apply, v5_apply, v7_apply, v55_apply]
    obtain ⟨q, hq⟩ := q
    interval_cases q <;> rfl

/-- The distance of each pair. -/
theorem v144_apply (p : Fin 512) (q : Fin 24) :
    val_main_v144 (F := Ideal) X (ix4 b l p q) = Spec.apart (atom X b l (Spec.left q)) (atom X b p (Spec.right q)) := by
  pointwise [val_main_v144, val_main_v143, val_main_v142, val_main_cst_7, val_main_v141, val_main_cst_6, val_main_v140, val_main_v139,
    val_main_v138, val_main_v137, val_main_v136, val_main_v135, v107_apply, v134_apply]
  rfl

end Cert.Proof.RefAtoms
-- ==== Proof.RefNear.lean ====
/-
  The reference's neighbours: with the mask one everywhere its adjusted distances are the distances, and the positions of
  the greatest negated distances are those the rounds of the kernel take.
-/
module

public import proofs.«01_k».proof.Proof.RefAtoms
public import Idealize.ShloMosaic.Lib.IdealHost

@[expose] public section

set_option maxRecDepth 16384

noncomputable section

namespace Cert.Proof.RefNear

open Cert.ReferenceIdeal Cert.ReferenceIdeal.Gen Cert.ReferenceIdeal.Read
open Idealize.ShloMosaic Idealize.ShloMosaic.TcCoe
open Cert.Proof.RefAtoms

/-- Moving an index along the last axis replaces its last coordinate. -/
theorem along_last (b : Fin 4) (l k p : Fin 512) :
    (ix3 b l k : S4x512x512.Idx).along 2 p = ix3 b l p := by
  funext a
  match a with
  | 0 => rfl
  | 1 => rfl
  | 2 => rfl

section Sorting

variable {α β : Type} (cmp : α × β → α × β → BitVec 1) (x : S4x512x512.Idx → α) (y : S4x512x512.Idx → β) (b : Fin 4) (l k : Fin 512)

/-- Where the sort along the last axis finds the element it puts at `k`. -/
def from2 : Fin 512 :=
  sortedFrom (fun p p' : Fin 512 => cmp (x (ix3 b l p), y (ix3 b l p)) (x (ix3 b l p'), y (ix3 b l p')) == 1#1) k

/-- The order of a row of two arrays sorted together depends on that row alone. -/
theorem from2_eq : sortedFrom (fun p p' : Fin 512 => cmp (x ((ix3 b l k : S4x512x512.Idx).along 2 p), y ((ix3 b l k : S4x512x512.Idx).along 2 p))
    (x ((ix3 b l k : S4x512x512.Idx).along 2 p'), y ((ix3 b l k : S4x512x512.Idx).along 2 p')) == 1#1) k = from2 cmp x y b l k := by
  simp only [along_last]
  rfl

/-- The first of two arrays sorted together, by coordinates. -/
theorem sort2_fst : (Host.sort2 S4x512x512 2 cmp x y).1 (ix3 b l k) = x (ix3 b l (from2 cmp x y b l k)) := by
  unfold Host.sort2
  rw [dif_pos (show 2 < S4x512x512.rank by decide), ← along_last b l k (from2 cmp x y b l k), ← from2_eq]
  rfl

/-- The second of two arrays sorted together, by coordinates. -/
theorem sort2_snd : (Host.sort2 S4x512x512 2 cmp x y).2 (ix3 b l k) = y (ix3 b l (from2 cmp x y b l k)) := by
  unfold Host.sort2
  rw [dif_pos (show 2 < S4x512x512.rank by decide), ← along_last b l k (from2 cmp x y b l k), ← from2_eq]
  rfl

end Sorting

/-- The order of a row's positions that puts the greater first. -/
theorem from2_greater (D : FVec Ideal S4x512x512 .f32) (y : IVec S4x512x512 32) (b : Fin 4) (l k : Fin 512) :
    from2 (fun u v => FloatOps.cmpfTotal (F := Ideal) (φ := .f32) .gt u.1 v.1) D y b l k
      = sortedFrom (fun p p' : Fin 512 => decide (D (ix3 b l p') < D (ix3 b l p))) k := by
  unfold from2
  congr 1
  funext p p'
  show (BitVec.ofBool (decide (D (ix3 b l p') < D (ix3 b l p))) == 1#1) = _
  by_cases h : D (ix3 b l p') < D (ix3 b l p) <;> simp [h]

/-- The first 64 columns of an array. -/
theorem cut_apply {α : Type} (v : S4x512x512.Idx → α) (b : Fin 4) (l : Fin 512) (j : Fin 64) :
    extractStridedSlice S4x512x64 (fun _ => 0) v sliceFits_S4x512x512_S4x512x64 (ix3 b l j) = v (ix3 b l (j.castLE (by omega))) := by
  have hj : 64 ≤ 512 := by decide
  exact extractStridedSlice_apply (fun _ => 0) v sliceFits_S4x512x512_S4x512x64 (ix3 b l j) (ix3 b l (j.castLE hj)) (fun a => match a with
    | 0 => by exact (Nat.zero_add _).symm
    | 1 => by exact (Nat.zero_add _).symm
    | 2 => by exact (Nat.zero_add _).symm)

/-- The position of the `j`-th greatest of a row. -/
theorem top_pos (D : FVec Ideal S4x512x512 .f32) (b : Fin 4) (l : Fin 512) (j : Fin 64) :
    (Host.topK S4x512x64 2 (FloatOps.cmpfTotal .gt) D sliceFits_S4x512x512_S4x512x64).2 (ix3 b l j)
      = BitVec.ofNat 32 (sortedFrom (fun p p' : Fin 512 => decide (D (ix3 b l p') < D (ix3 b l p))) (j.castLE (by omega))).val := by
  unfold Host.topK
  dsimp only
  rw [cut_apply]
  rw [sort2_snd, from2_greater, dif_pos (show 2 < S4x512x512.rank by decide)]
  rfl

/-- The value of the `j`-th greatest of a row. -/
theorem top_val (D : FVec Ideal S4x512x512 .f32) (b : Fin 4) (l : Fin 512) (j : Fin 64) :
    (Host.topK S4x512x64 2 (FloatOps.cmpfTotal .gt) D sliceFits_S4x512x512_S4x512x64).1 (ix3 b l j)
      = D (ix3 b l (sortedFrom (fun p p' : Fin 512 => decide (D (ix3 b l p') < D (ix3 b l p))) (j.castLE (by omega)))) := by
  unfold Host.topK
  dsimp only
  rw [cut_apply]
  rw [sort2_fst, from2_greater]

section Masked

variable (X : FVec Ideal S4x512x4x3 .f32) (M : FVec Ideal S4x512 .f32) (hM : ∀ b l, M (ix2 b l) = (1 : EReal))
  (hbig : ∀ b l k, Answer.gap X b l k < KnnBlock.big) (b : Fin 4) (l : Fin 512)

/-- One less one is zero, of extended reals. -/
theorem one_sub_one : (1 : EReal) - 1 = 0 := by
  show ((1 : ℝ) : EReal) - ((1 : ℝ) : EReal) = 0
  rw [← EReal.coe_sub, sub_self, EReal.coe_zero]

include hM in
/-- Where the mask is one, the values the reference ranks are the negated gaps. -/
theorem v79_apply (p : Fin 512) : val_main_v79 (F := Ideal) X M (ix3 b l p) = -Answer.gap X b l p := by
  pointwise [val_main_v79, val_main_v78, val_main_v77, val_main_v76, val_main_v75, val_main_v74, val_main_cst_5, val_main_v73,
    val_main_v71, val_main_v60, val_main_v59, val_main_v58, val_main_v57, val_main_v56, v70_apply]
  rw [hM, hM, mul_one, one_mul, one_sub_one, zero_mul, add_zero]

include hM hbig in
/-- The reference's `j`-th position is the `j`-th nearest residue. -/
theorem order_eq (j : Fin 64) :
    sortedFrom (fun p p' : Fin 512 => decide (val_main_v79 (F := Ideal) X M (ix3 b l p') < val_main_v79 (F := Ideal) X M (ix3 b l p)))
      (j.castLE (by omega)) = Answer.near X b l j := by
  have h : (fun p p' : Fin 512 => decide (val_main_v79 (F := Ideal) X M (ix3 b l p') < val_main_v79 (F := Ideal) X M (ix3 b l p)))
      = fun p p' => decide (Answer.gap X b l p < Answer.gap X b l p') := by
    funext p p'
    rw [v79_apply X M hM, v79_apply X M hM]
    exact decide_eq_decide.mpr EReal.neg_lt_neg_iff
  rw [h]
  exact Nearest.sortedFrom_eq_pick (hbig b l) (by omega) j

include hM hbig in
/-- The neighbours' positions. -/
theorem indices_apply (j : Fin 64) :
    val_main_indices (F := Ideal) X M (ix3 b l j) = BitVec.ofNat 32 (Answer.near X b l j).val := by
  unfold val_main_indices
  rw [top_pos, order_eq X M hM hbig]

include hM hbig in
/-- The neighbours' distances. -/
theorem v80_apply (j : Fin 64) :
    val_main_v80 (F := Ideal) X M (ix3 b l j) = Answer.gap X b l (Answer.near X b l j) := by
  show -(val_main_values (F := Ideal) X M (ix3 b l j) : EReal) = _
  unfold val_main_values
  rw [top_val, order_eq X M hM hbig, v79_apply X M hM, neg_neg]

end Masked

end Cert.Proof.RefNear
-- ==== Proof.RefGather.lean ====
/-
  The reference's reads at the neighbours' positions: a position is in range, so each read is the entry at the
  neighbour.
-/
module

public import proofs.«01_k».proof.Proof.RefNear
public import Idealize.ShloMosaic.Lib.ReduceAll
public import Idealize.ShloMosaic.Lib.WordCmp

@[expose] public section

set_option maxRecDepth 16384

noncomputable section

namespace Cert.Proof.RefGather

open Cert.ReferenceIdeal Cert.ReferenceIdeal.Gen Cert.ReferenceIdeal.Read
open Idealize.ShloMosaic Idealize.ShloMosaic.TcCoe
open Cert.Proof.RefAtoms Cert.Proof.RefNear

/-- The word of a position is that position, signed. -/
theorem toInt_pos (p : Fin 512) : (BitVec.ofNat 32 p.val).toInt = p.val := KnnBlock.toInt_ofNat_lt _ (by omega)

/-- A gather along the residues of an array of 24 columns takes the entries at the position. -/
theorem gather24_apply {α : Type} (x : S4x512x512x24.Idx → α) (idx : IVec S4x512x64x1 32) (b : Fin 4) (l : Fin 512) (j : Fin 64) (q : Fin 24)
    (p : Fin 512) (hp : idx (ix4 b l j 0) = BitVec.ofNat 32 p.val) :
    Host.gather gather_S4x512x512x24_S4x512x64x1_S4x512x64x24_3_2_01_01_2_3_11124 x idx (ix4 b l j q) = x (ix4 b l p q) := by
  unfold Host.gather
  congr 1
  funext a
  apply Fin.ext
  have h : (min (idx (ix4 b l j 0)).toInt.toNat 511) = p.val := by
    rw [hp, toInt_pos]
    omega
  have hs : gather_S4x512x512x24_S4x512x64x1_S4x512x64x24_3_2_01_01_2_3_11124.siIdx (ix4 b l j q) ⟨0, by decide⟩ = ix4 b l j 0 := by
    funext e
    match e with
    | 0 => rfl
    | 1 => rfl
    | 2 => rfl
    | 3 => rfl
  rw [← hs] at h
  match a with
  | 0 => exact (Nat.zero_add _).trans rfl
  | 1 => exact (Nat.zero_add _).trans rfl
  | 2 => exact h
  | 3 => exact (Nat.zero_add _).trans rfl

/-- A gather along the residues takes the entry at the position. -/
theorem gather_apply {α : Type} (x : S4x512x512.Idx → α) (idx : IVec S4x512x64x1 32) (b : Fin 4) (l : Fin 512) (j : Fin 64)
    (p : Fin 512) (hp : idx (ix4 b l j 0) = BitVec.ofNat 32 p.val) :
    Host.gather gather_S4x512x512_S4x512x64x1_S4x512x64_n_2_01_01_2_3_111 x idx (ix3 b l j) = x (ix3 b l p) := by
  unfold Host.gather
  congr 1
  funext a
  apply Fin.ext
  have h : (min (idx (ix4 b l j 0)).toInt.toNat 511) = p.val := by
    rw [hp, toInt_pos]
    omega
  have hs : gather_S4x512x512_S4x512x64x1_S4x512x64_n_2_01_01_2_3_111.siIdx (ix3 b l j) ⟨0, by decide⟩ = ix4 b l j 0 := by
    funext e
    match e with
    | 0 => rfl
    | 1 => rfl
    | 2 => rfl
    | 3 => rfl
  rw [← hs] at h
  match a with
  | 0 => exact (Nat.zero_add _).trans rfl
  | 1 => exact (Nat.zero_add _).trans rfl
  | 2 => exact h

/-- A position is not negative, so it is not wrapped. -/
theorem low (p : Fin 512) : Scalar.select (IntOp.cmpi .slt (BitVec.ofNat 32 p.val) 0#32) (IntOp.addi (BitVec.ofNat 32 p.val) 512#32)
    (BitVec.ofNat 32 p.val) = BitVec.ofNat 32 p.val := by
  rw [WordCmp.cmpi_slt_ofNat (b := 0) (by omega) (by omega), decide_eq_false (by omega)]
  rfl

/-- A position is in range. -/
theorem within (p : Fin 512) : IntOp.andi (IntOp.cmpi .sge (BitVec.ofNat 32 p.val) 0#32) (IntOp.cmpi .sle (BitVec.ofNat 32 p.val) 511#32)
    = 1#1 := by
  rw [WordCmp.cmpi_sge_ofNat (b := 0) (by omega) (by omega), WordCmp.cmpi_sle_ofNat (b := 511) (by omega) (by omega),
    decide_eq_true (by omega), decide_eq_true (by omega)]
  rfl

section Masked

variable (X : FVec Ideal S4x512x4x3 .f32) (M : FVec Ideal S4x512 .f32) (hM : ∀ b l, M (ix2 b l) = (1 : EReal))
  (hbig : ∀ b l k, Answer.gap X b l k < KnnBlock.big)

include hM hbig in
/-- The first gather's positions are the neighbours. -/
theorem call0_v4_apply (b : Fin 4) (l : Fin 512) (j : Fin 64) :
    val_main_call0_v4 (F := Ideal) X M (ix4 b l j 0) = BitVec.ofNat 32 (Answer.near X b l j).val := by
  pointwise [val_main_call0_v4, val_main_call0_v3, val_main_call0_v2, val_main_call0_c_0, val_main_call0_v1, val_main_call0_v0,
    val_main_call0_c, val_main_v145, indices_apply X M hM hbig]
  rw [low]

include hM hbig in
/-- The first gather's positions are in range. -/
theorem call0_v11_apply (b : Fin 4) (l : Fin 512) (j : Fin 64) : val_main_call0_v11 (F := Ideal) X M (ix3 b l j) = 1#1 := by
  unfold val_main_call0_v11
  refine Host.reduce_andi_one _ _ _ _ _ rfl fun i => ?_
  idx_vars i
  obtain rfl : i3 = 0 := Subsingleton.elim _ _
  pointwise [val_main_call0_v10, val_main_call0_v9, val_main_call0_v8, val_main_call0_v7, val_main_call0_c_1, val_main_call0_v6,
    val_main_call0_v5, val_main_call0_c_2, call0_v4_apply X M hM hbig]
  rw [within]

include hM hbig in
/-- The pairs' distances at the neighbour. -/
theorem v146_apply (b : Fin 4) (l : Fin 512) (j : Fin 64) (q : Fin 24) :
    val_main_v146 (F := Ideal) X M (ix4 b l j q)
      = Spec.apart (HostTable.atom X b l (Spec.left q)) (HostTable.atom X b (Answer.near X b l j) (Spec.right q)) := by
  pointwise [val_main_v146, val_main_call0_v13, call0_v11_apply X M hM hbig]
  refine Eq.trans ?_ (v144_apply X b l (Answer.near X b l j) q)
  exact gather24_apply _ _ b l j q _ (call0_v4_apply X M hM hbig b l j)

include hM hbig in
/-- The second gather's positions are the neighbours. -/
theorem call2_v5_apply (b : Fin 4) (l : Fin 512) (j : Fin 64) :
    val_main_call2_v5 (F := Ideal) X M (ix4 b l j 0) = BitVec.ofNat 32 (Answer.near X b l j).val := by
  pointwise [val_main_call2_v5, val_main_call2_v4, val_main_call2_v3, val_main_call2_v2, val_main_call2_c_0, val_main_call2_v1, val_main_call2_v0,
    val_main_call2_c, indices_apply X M hM hbig]
  rw [low]

include hM hbig in
/-- The second gather's positions are in range. -/
theorem call2_v12_apply (b : Fin 4) (l : Fin 512) (j : Fin 64) : val_main_call2_v12 (F := Ideal) X M (ix3 b l j) = 1#1 := by
  unfold val_main_call2_v12
  refine Host.reduce_andi_one _ _ _ _ _ rfl fun i => ?_
  idx_vars i
  obtain rfl : i3 = 0 := Subsingleton.elim _ _
  pointwise [val_main_call2_v11, val_main_call2_v10, val_main_call2_v9, val_main_call2_v8, val_main_call2_c_1, val_main_call2_v7, val_main_call2_v6,
    val_main_call2_c_2, call2_v5_apply X M hM hbig]
  rw [within]

include hM hbig in
/-- The third gather's positions are the neighbours. -/
theorem call3_v5_apply (b : Fin 4) (l : Fin 512) (j : Fin 64) :
    val_main_call3_v5 (F := Ideal) X M (ix4 b l j 0) = BitVec.ofNat 32 (Answer.near X b l j).val := by
  pointwise [val_main_call3_v5, val_main_call3_v4, val_main_call3_v3, val_main_call3_v2, val_main_call3_c_0, val_main_call3_v1, val_main_call3_v0,
    val_main_call3_c, indices_apply X M hM hbig]
  rw [low]

include hM hbig in
/-- The third gather's positions are in range. -/
theorem call3_v12_apply (b : Fin 4) (l : Fin 512) (j : Fin 64) : val_main_call3_v12 (F := Ideal) X M (ix3 b l j) = 1#1 := by
  unfold val_main_call3_v12
  refine Host.reduce_andi_one _ _ _ _ _ rfl fun i => ?_
  idx_vars i
  obtain rfl : i3 = 0 := Subsingleton.elim _ _
  pointwise [val_main_call3_v11, val_main_call3_v10, val_main_call3_v9, val_main_call3_v8, val_main_call3_c_1, val_main_call3_v7, val_main_call3_v6,
    val_main_call3_c_2, call3_v5_apply X M hM hbig]
  rw [within]

include hM hbig in
/-- The difference of the residues' numbers at the neighbour. -/
theorem v164_apply (R : IVec S4x512 32) (b : Fin 4) (l : Fin 512) (j : Fin 64) :
    val_main_v164 (F := Ideal) X M R (ix3 b l j) = IntOp.subi (R (ix2 b l)) (R (ix2 b (Answer.near X b l j))) := by
  pointwise [val_main_v164, call2_v12_apply X M hM hbig]
  refine (gather_apply _ _ b l j _ (call2_v5_apply X M hM hbig b l j)).trans ?_
  pointwise [val_main_v163, val_main_v162, val_main_v161, val_main_v160, val_main_v159]

include hM hbig in
/-- Whether the chains agree at the neighbour. -/
theorem v171_apply (C : IVec S4x512 32) (b : Fin 4) (l : Fin 512) (j : Fin 64) :
    val_main_v171 (F := Ideal) X M C (ix3 b l j) = (IntOp.cmpi .eq (C (ix2 b l)) (C (ix2 b (Answer.near X b l j)))).setWidth 32 := by
  pointwise [val_main_v171, call3_v12_apply X M hM hbig]
  refine (gather_apply _ _ b l j _ (call3_v5_apply X M hM hbig b l j)).trans ?_
  pointwise [val_main_v170, val_main_v169, val_main_v168, val_main_v167, val_main_v166, val_main_v165]

end Masked

end Cert.Proof.RefGather
-- ==== Proof.RefFeat.lean ====
/-
  The reference's feature columns: the centres of the radial functions, the radial functions of the distances, the
  class of the relative position and its embedding.
-/
module

public import proofs.«01_k».proof.Proof.RefGather
public import proofs.«01_k».proof.Proof.FeatRows

@[expose] public section

set_option maxRecDepth 16384

noncomputable section

namespace Cert.Proof.RefFeat

open Cert.ReferenceIdeal Cert.ReferenceIdeal.Gen Cert.ReferenceIdeal.Read
open Idealize.ShloMosaic Idealize.ShloMosaic.TcCoe
open Cert.Proof.RefAtoms Cert.Proof.RefNear Cert.Proof.RefGather

/-! ## The centres -/

/-- The word of the constant 2 is the number 2. -/
theorem two : Ideal.ofBits .f32 0x40000000#32 = ((2 : ℝ) : EReal) := by
  simp [Ideal.ofBits, Ideal.ieee]
  rw [← EReal.coe_mul]; norm_num
/-- The word of the constant 22 is the number 22. -/
theorem twentytwo : Ideal.ofBits .f32 0x41B00000#32 = ((22 : ℝ) : EReal) := by
  simp [Ideal.ofBits, Ideal.ieee]
  rw [← EReal.coe_mul]; norm_num
/-- The word of the constant 15 is the number 15. -/
theorem fifteen : Ideal.ofBits .f32 0x41700000#32 = ((15 : ℝ) : EReal) := by
  simp [Ideal.ofBits, Ideal.ieee]
  rw [← EReal.coe_mul]; norm_num

/-- The `i`-th of the evenly spaced centres. -/
theorem spaced (i : ℝ) : ((2 : ℝ) : EReal) * (1 - Ideal.div ((i : ℝ) : EReal) ((15 : ℝ) : EReal)) + ((22 : ℝ) : EReal) * Ideal.div ((i : ℝ) : EReal) ((15 : ℝ) : EReal)
    = ((2 : ℝ) : EReal) + ((i : ℝ) : EReal) * ((4 / 3 : ℝ) : EReal) := by
  rw [Ideal.div_coe (by norm_num), ← EReal.coe_one]
  simp only [← EReal.coe_mul, ← EReal.coe_sub, ← EReal.coe_add]
  congr 1
  ring

/-- The sixteen centres that the reference spaces evenly from 2 to 22 are the centres of the radial functions. -/
theorem ladder (c : Fin 16) :
    (if _h : c.val < 15 then
      Ideal.ofBits .f32 0x40000000#32 * (1 - Ideal.div (((BitVec.ofNat 32 c.val).toInt : ℝ) : EReal) (Ideal.ofBits .f32 0x41700000#32))
        + Ideal.ofBits .f32 0x41B00000#32 * Ideal.div (((BitVec.ofNat 32 c.val).toInt : ℝ) : EReal) (Ideal.ofBits .f32 0x41700000#32)
    else Ideal.ofBits .f32 0x41B00000#32) = Spec.centre c := by
  rw [Spec.centre, two, twentytwo, fifteen, spaced]
  split_ifs with h
  · rfl
  · have hc : c.val = 15 := by omega
    rw [hc, show (BitVec.ofNat 32 15).toInt = 15 from rfl, ← EReal.coe_mul, ← EReal.coe_add]
    congr 1
    norm_num

/-- The centres the reference uses for the pairs' distances. -/
theorem v147_apply (c : Fin 16) : val_main_v147 (F := Ideal) (ix1 c) = Spec.centre c := by
  pointwise [val_main_v147, val_main_call1_v16, val_main_call1_v15, val_main_call1_v14, val_main_call1_v13, val_main_call1_v12,
    val_main_call1_v11, val_main_call1_v10, val_main_call1_v9, val_main_call1_v8, val_main_call1_cst_1, val_main_call1_v7, val_main_call1_v6,
    val_main_call1_v5, val_main_call1_cst_0, val_main_call1_v4, val_main_call1_v1, val_main_call1_v0, val_main_cst_9, val_main_cst_8]
  exact ladder c

/-- The centres the reference uses for the neighbour's distance. -/
theorem v186_apply (c : Fin 16) : val_main_v186 (F := Ideal) (ix1 c) = Spec.centre c := by
  pointwise [val_main_v186, val_main_call6_v16, val_main_call6_v15, val_main_call6_v14, val_main_call6_v13, val_main_call6_v12,
    val_main_call6_v11, val_main_call6_v10, val_main_call6_v9, val_main_call6_v8, val_main_call6_cst_1, val_main_call6_v7, val_main_call6_v6,
    val_main_call6_v5, val_main_call6_cst_0, val_main_call6_v4, val_main_call6_v1, val_main_call6_v0, val_main_cst_16, val_main_cst_15]
  exact ladder c

/-! ## The radial functions -/

section Masked

variable (X : FVec Ideal S4x512x4x3 .f32) (M : FVec Ideal S4x512 .f32) (hM : ∀ b l, M (ix2 b l) = (1 : EReal))
  (hbig : ∀ b l k, Answer.gap X b l k < KnnBlock.big)

/-- A radial function, with the negation in place of a subtraction from zero. -/
theorem rbf_eq (d : EReal) (c : Fin 16) : Ideal.exp (-(Spec.off d c * Spec.off d c)) = Spec.rbf d c := by
  rw [Spec.rbf, sub_eq_add_neg, zero_add]

include hM hbig in
/-- The radial functions of a pair's distance. -/
theorem v157_apply (b : Fin 4) (l : Fin 512) (j : Fin 64) (q : Fin 24) (c : Fin 16) :
    val_main_v157 (F := Ideal) X M (ix5 b l j q c)
      = Spec.rbf (Spec.apart (HostTable.atom X b l (Spec.left q)) (HostTable.atom X b (Answer.near X b l j) (Spec.right q))) c := by
  pointwise [val_main_v157, val_main_v156, val_main_v155, val_main_v154, val_main_v153, val_main_cst_10, val_main_v152, val_main_v151,
    val_main_v150, val_main_v149, val_main_v148, v147_apply, v146_apply X M hM hbig]
  exact rbf_eq _ _

include hM hbig in
/-- The same, the 24 pairs side by side. -/
theorem v158_apply (b : Fin 4) (l : Fin 512) (j : Fin 64) (n : Fin 384) :
    val_main_v158 (F := Ideal) X M (ix4 b l j n)
      = Spec.rbf (Spec.apart (HostTable.atom X b l (Spec.left ⟨n.val / 16, by omega⟩))
          (HostTable.atom X b (Answer.near X b l j) (Spec.right ⟨n.val / 16, by omega⟩))) ⟨n.val % 16, by omega⟩ := by
  rw [← v157_apply X M hM hbig]
  unfold val_main_v158
  generalize val_main_v157 (F := Ideal) X M = y
  pointwise []

include hM hbig in
/-- The radial functions of the neighbour's distance. -/
theorem v196_apply (b : Fin 4) (l : Fin 512) (j : Fin 64) (c : Fin 16) :
    val_main_v196 (F := Ideal) X M (ix4 b l j c) = Spec.rbf (Answer.gap X b l (Answer.near X b l j)) c := by
  pointwise [val_main_v196, val_main_v195, val_main_v194, val_main_v193, val_main_v192, val_main_cst_17, val_main_v191, val_main_v190,
    val_main_v189, val_main_v188, val_main_v187, v186_apply, v80_apply X M hM hbig]
  exact rbf_eq _ _

/-! ## The relative position -/

/-- The number a clipped difference has. -/
theorem clip_toInt (ra rb : BitVec 32) (ha : 0 ≤ ra.toInt) (ha' : ra.toInt < 1073741824) (hb : 0 ≤ rb.toInt) (hb' : rb.toInt < 1073741824) :
    IntOp.minsi 64#32 (IntOp.maxsi 0#32 (IntOp.addi (IntOp.subi ra rb) 32#32))
      = BitVec.ofNat 32 (min 64 (max 0 (ra.toInt - rb.toInt + 32))).toNat := by
  have h : (IntOp.addi (IntOp.subi ra rb) 32#32).toInt = ra.toInt - rb.toInt + 32 := by
    show (ra - rb + 32#32).toInt = _
    rw [BitVec.toInt_add, BitVec.toInt_sub, show (32#32).toInt = 32 from rfl, Int.bmod_add_bmod]
    exact Int.bmod_eq_of_le (by omega) (by omega)
  have hk : ∀ n : ℕ, n ≤ 64 → (BitVec.ofNat 32 n).toInt = n := fun n hn => KnnBlock.toInt_ofNat_lt n (by omega)
  apply BitVec.eq_of_toInt_eq
  rw [hk _ (by omega)]
  unfold IntOp.minsi IntOp.maxsi
  simp only [BitVec.slt, h, show (0#32).toInt = 0 from rfl, show (64#32).toInt = 64 from rfl, decide_eq_true_eq]
  split_ifs with h1 h2 h2
  all_goals
    simp only [h, show (0#32).toInt = 0 from rfl, show (64#32).toInt = 64 from rfl] at *
    omega

/-- The class as the reference finds it. -/
theorem class_word (ca cb ra rb : BitVec 32) (ha : 0 ≤ ra.toInt) (ha' : ra.toInt < 1073741824) (hb : 0 ≤ rb.toInt)
    (hb' : rb.toInt < 1073741824) :
    IntOp.addi (IntOp.muli (IntOp.minsi 64#32 (IntOp.maxsi 0#32 (IntOp.addi (IntOp.subi ra rb) 32#32)))
        ((IntOp.cmpi .eq ca cb).setWidth 32))
      (IntOp.muli (IntOp.subi 1#32 ((IntOp.cmpi .eq ca cb).setWidth 32)) 65#32)
      = BitVec.ofNat 32 (Spec.cls ca.toInt cb.toInt ra.toInt rb.toInt) := by
  rw [clip_toInt ra rb ha ha' hb hb']
  unfold Spec.cls
  by_cases h : ca = cb
  · subst h
    rw [if_pos rfl, show (IntOp.cmpi .eq ca ca).setWidth 32 = 1#32 by simp [IntOp.cmpi]]
    simp [IntOp.addi, IntOp.muli, IntOp.subi]
  · have h' : (ca == cb) = false := by simpa using h
    rw [if_neg (fun e => h (BitVec.eq_of_toInt_eq e)), show (IntOp.cmpi .eq ca cb).setWidth 32 = 0#32 by simp [IntOp.cmpi, h']]
    simp [IntOp.addi, IntOp.muli, IntOp.subi]

section Places

variable (R C : IVec S4x512 32) (hR : ∀ b l, 0 ≤ (R (ix2 b l)).toInt ∧ (R (ix2 b l)).toInt < 1073741824)

include hM hbig hR in
/-- The class of the relative position, as a word. -/
theorem v180_apply (b : Fin 4) (l : Fin 512) (j : Fin 64) :
    val_main_v180 (F := Ideal) X M R C (ix3 b l j) = BitVec.ofNat 32 (Answer.clsOf R C b l (Answer.near X b l j)) := by
  pointwise [val_main_v180, val_main_v179, val_main_v178, val_main_c_14, val_main_v177, val_main_v176, val_main_c_13, val_main_v175,
    val_main_v174, val_main_call4_v4, val_main_call4_v3, val_main_call4_v2, val_main_call4_v1, val_main_call4_v0, val_main_c_12, val_main_c_11,
    val_main_v173, val_main_v172, val_main_c, v171_apply X M hM hbig, v164_apply X M hM hbig]
  exact class_word _ _ _ _ (hR _ _).1 (hR _ _).2 (hR _ _).1 (hR _ _).2

/-- The equality of two words, as a number. -/
theorem uhot (a b : BitVec 32) : (FloatOps.uitofp .f32 (IntOp.cmpi .eq a b) : Ideal .f32) = if a = b then (1 : EReal) else 0 := by
  show (((IntOp.cmpi .eq a b).toNat : ℝ) : EReal) = _
  by_cases h : a = b
  · simp [IntOp.cmpi, h]
  · have h' : (a == b) = false := by simpa using h
    simp [IntOp.cmpi, h, h']

include hM hbig hR in
/-- The one-hot row of the class. -/
theorem v181_apply (b : Fin 4) (l : Fin 512) (j : Fin 64) (k : Fin 66) :
    val_main_v181 (F := Ideal) X M R C (ix4 b l j k)
      = if Answer.clsOf R C b l (Answer.near X b l j) = k.val then (1 : EReal) else 0 := by
  pointwise [val_main_v181, val_main_call5_v4, val_main_call5_v3, val_main_call5_v2, val_main_call5_v1, val_main_call5_v0,
    v180_apply X M hM hbig R C hR]
  have h : Answer.clsOf R C b l (Answer.near X b l j) < 100 := Spec.cls_lt _ _ _ _
  refine (uhot _ _).trans ?_
  exact if_congr (KnnBlock.ofNat_eq_iff _ _ (by omega) (by omega)) rfl rfl

include hM hbig hR in
/-- The embedding of the relative position. -/
theorem v185_apply (pw : FVec Ideal S66x16 .f32) (pb : FVec Ideal S16 .f32) (b : Fin 4) (l : Fin 512) (j : Fin 64) (c : Fin 16) :
    val_main_v185 (F := Ideal) X M R C pw pb (ix4 b l j c)
      = Spec.place (Answer.clsOf R C b l (Answer.near X b l j)) (fun k c => pw (ix2 k c)) (fun c => pb (ix1 c)) c := by
  pointwise [val_main_v185, val_main_v184, val_main_v183, val_main_v182, v181_apply X M hM hbig R C hR]
  rfl

/-- Equal pairs and equal centres give equal radial functions. -/
theorem pair_congr (b : Fin 4) (l p : Fin 512) {q q' : Fin 24} {c c' : Fin 16} (hq : q = q') (hc : c = c') :
    Spec.rbf (Spec.apart (HostTable.atom X b l (Spec.left q)) (HostTable.atom X b p (Spec.right q))) c
      = Spec.rbf (Spec.apart (HostTable.atom X b l (Spec.left q')) (HostTable.atom X b p (Spec.right q'))) c' := by
  rw [hq, hc]

include hM hbig hR in
/-- The feature columns. -/
theorem v197_apply (pw : FVec Ideal S66x16 .f32) (pb : FVec Ideal S16 .f32) (b : Fin 4) (l : Fin 512) (j : Fin 64) (n : Fin 416) :
    val_main_v197 (F := Ideal) X M R C pw pb (ix4 b l j n) = Answer.featOf X R C pw pb b l (Answer.near X b l j) n := by
  unfold Answer.featOf Spec.feat Spec.group
  pointwise [val_main_v197, v185_apply X M hM hbig R C hR, v196_apply X M hM hbig, v158_apply X M hM hbig]
  by_cases h0 : n.val < 16
  · rw [dif_pos h0, if_pos (show n.val / 16 = 0 by omega)]
    exact congrArg _ (Fin.ext (show n.val = n.val % 16 by omega))
  · rw [dif_neg h0, if_neg (show ¬ n.val / 16 = 0 by omega)]
    by_cases h1 : n.val - 16 < 16
    · rw [dif_pos h1, if_pos (show n.val / 16 = 1 by omega)]
      exact congrArg _ (Fin.ext (show n.val - 16 = n.val % 16 by omega))
    · rw [dif_neg h1, if_neg (show ¬ n.val / 16 = 1 by omega)]
      exact pair_congr X b l _ (Fin.ext (show (n.val - 16 - 16) / 16 = n.val / 16 - 2 by omega))
        (Fin.ext (show (n.val - 16 - 16) % 16 = n.val % 16 by omega))

end Places

end Masked

end Cert.Proof.RefFeat
-- ==== Proof.RefRow.lean ====
/-
  The reference's row: the feature columns times the edge weights, normalised by the mean and the variance, scaled and
  shifted. A division by the root of the softened variance is a product with its inverse root, for that variance is
  positive.
-/
module

public import proofs.«01_k».proof.Proof.RefFeat

@[expose] public section

set_option maxRecDepth 16384

noncomputable section

namespace Cert.Proof.RefRow

open Cert.ReferenceIdeal Cert.ReferenceIdeal.Gen Cert.ReferenceIdeal.Read
open Idealize.ShloMosaic Idealize.ShloMosaic.TcCoe
open Cert.Proof.RefFeat

/-! ## Dividing by the root -/

/-- A square is not negative, of extended reals. -/
theorem square_nonneg (a : EReal) : 0 ≤ a * a := by
  rcases le_total 0 a with h | h
  · exact mul_nonneg h h
  · have h' : 0 ≤ -a := EReal.neg_nonneg.mpr h
    rw [← neg_mul_neg]
    exact mul_nonneg h' h'

/-- The word of the constant 128 is the number 128. -/
theorem bits128 : Ideal.ofBits .f32 0x43000000#32 = ((128 : ℝ) : EReal) := by
  simp [Ideal.ofBits, Ideal.ieee]
  rw [← EReal.coe_mul]; norm_num

/-- The number the variance is softened by is positive. -/
theorem small_pos : 0 < Ideal.ofBits .f32 0x3727C5AC#32 := by
  simp [Ideal.ofBits, Ideal.ieee]
  rw [← EReal.coe_mul]
  exact EReal.coe_pos.mpr (by positivity)

/-- The softened variance of a row is positive. -/
theorem spread_pos (e : Fin 128 → EReal) : 0 < Spec.spread e := by
  unfold Spec.spread
  have h : 0 ≤ Ideal.div (∑ f, (e f - Spec.mean e) * (e f - Spec.mean e)) (Ideal.ofBits .f32 0x43000000#32) := by
    rw [bits128, Ideal.div_coe (by norm_num)]
    exact mul_nonneg (Finset.sum_nonneg fun f _ => square_nonneg _) (EReal.coe_nonneg.mpr (by norm_num))
  exact lt_of_lt_of_le small_pos (le_add_of_nonneg_left h)

/-- Division by the root of a positive value is multiplication with its inverse root. -/
theorem div_sqrt (x v : EReal) (hv : 0 < v) : Ideal.div x (Ideal.sqrt v) = x * Ideal.rsqrt v := by
  induction v using EReal.rec with
  | bot => exact absurd hv (by simp)
  | top =>
    show (if (⊤ : EReal) = 0 then _ else x * (⊤ : EReal)⁻¹) = x * 0
    rw [if_neg EReal.top_ne_zero, EReal.inv_top]
  | coe r =>
    have hr : 0 < r := EReal.coe_pos.mp hv
    have hs : Real.sqrt r ≠ 0 := (Real.sqrt_pos.mpr hr).ne'
    have e1 : Ideal.sqrt (r : EReal) = ((Real.sqrt r : ℝ) : EReal) := if_neg (not_lt.mpr hr.le)
    have e2 : Ideal.rsqrt (r : EReal) = (((Real.sqrt r)⁻¹ : ℝ) : EReal) :=
      (if_neg (not_lt.mpr hr.le)).trans (if_neg hr.ne')
    rw [e1, e2, Ideal.div_coe hs, one_div]

/-! ## The row -/

section Row

variable (X : FVec Ideal S4x512x4x3 .f32) (M : FVec Ideal S4x512 .f32)
  (hM : ∀ b l, M (ix2 b l) = (1 : EReal)) (hbig : ∀ b l k, Answer.gap X b l k < KnnBlock.big)
  (R C : IVec S4x512 32)
  (hR : ∀ b l, 0 ≤ (R (ix2 b l)).toInt ∧ (R (ix2 b l)).toInt < 1073741824)
  (pw : FVec Ideal S66x16 .f32) (pb : FVec Ideal S16 .f32) (W : FVec Ideal S416x128 .f32) (γ β : FVec Ideal S128 .f32)

/-- The row before it is normalised. -/
abbrev rowOf (b : Fin 4) (l : Fin 512) (j : Fin 64) : Fin 128 → EReal :=
  Answer.edgeOf X R C pw pb W b l (Answer.near X b l j)

include hM hbig hR in
/-- The reference's row before it is normalised. -/
theorem v198_apply (b : Fin 4) (l : Fin 512) (j : Fin 64) (f : Fin 128) :
    val_main_v198 (F := Ideal) X M R C pw pb W (ix4 b l j f) = rowOf X R C pw pb W b l j f := by
  pointwise [val_main_v198, v197_apply X M hM hbig R C hR pw pb]
  rfl

include hM hbig hR in
/-- The mean of the row. -/
theorem v202_apply (b : Fin 4) (l : Fin 512) (j : Fin 64) :
    val_main_v202 (F := Ideal) X M R C pw pb W (ix4 b l j 0) = Spec.mean (rowOf X R C pw pb W b l j) := by
  pointwise [val_main_v202, val_main_v201, val_main_v200, val_main_v199, val_main_cst_18, val_main_cst_19,
    v198_apply X M hM hbig R C hR pw pb W]
  rfl

/-- The number the sum of squares is divided by. -/
theorem count_apply : val_main_call7_v8 (F := Ideal) ix0 = Ideal.ofBits .f32 0x43000000#32 := by
  pointwise [val_main_call7_v8, val_main_call7_v7, val_main_c_20, val_main_call7_cst_1]
  have h : (FloatOps.sitofp .f32 0#32 : Ideal .f32) = ((0 : ℝ) : EReal) := by
    show (((0#32 : BitVec 32).toInt : ℝ) : EReal) = _
    norm_num
  rw [h, EReal.coe_zero]
  exact sub_zero _

include hM hbig hR in
/-- The mean of the squares of the centred row. -/
theorem call7_v12_apply (b : Fin 4) (l : Fin 512) (j : Fin 64) :
    val_main_call7_v12 (F := Ideal) X M R C pw pb W (ix4 b l j 0)
      = Ideal.div (∑ f, (rowOf X R C pw pb W b l j f - Spec.mean (rowOf X R C pw pb W b l j))
          * (rowOf X R C pw pb W b l j f - Spec.mean (rowOf X R C pw pb W b l j))) (Ideal.ofBits .f32 0x43000000#32) := by
  pointwise [val_main_call7_v12, val_main_call7_v11, count_apply, val_main_call7_v10, val_main_call7_v9, val_main_call7_v6, val_main_call7_v5,
    val_main_call7_v4, val_main_call7_v3, val_main_call7_v2, val_main_call7_v1, val_main_call7_v0, val_main_call7_cst, val_main_call7_cst_0,
    val_main_call7_cst_2, v198_apply X M hM hbig R C hR pw pb W]
  rfl

include hM hbig hR in
/-- The variance of the row. -/
theorem v203_apply (b : Fin 4) (l : Fin 512) (j : Fin 64) :
    val_main_v203 (F := Ideal) X M R C pw pb W (ix4 b l j 0)
      = val_main_call7_v12 (F := Ideal) X M R C pw pb W (ix4 b l j 0) := by
  have h : val_main_call7_v13 (F := Ideal) ix0 = 1#1 := by
    pointwise [val_main_call7_v13, count_apply, val_main_call7_cst_3]
    have h0 : (0 : EReal) < Ideal.ofBits .f32 0x43000000#32 := by
      rw [bits128]; exact EReal.coe_pos.mpr (by norm_num)
    exact congrArg BitVec.ofBool (decide_eq_true h0)
  pointwise [val_main_v203, h]

include hM hbig hR in
/-- The reference's edge features. -/
theorem v216_apply (b : Fin 4) (l : Fin 512) (j : Fin 64) (f : Fin 128) :
    val_main_v216 (F := Ideal) X M R C pw pb W γ β (ix4 b l j f) = Answer.result X R C pw pb W γ β b l j f := by
  have hd := div_sqrt (rowOf X R C pw pb W b l j f - Spec.mean (rowOf X R C pw pb W b l j)) _ (spread_pos (rowOf X R C pw pb W b l j))
  pointwise [val_main_v216, val_main_v215, val_main_v214, val_main_v213, val_main_v212, val_main_v211, val_main_v206, val_main_cst_21,
    val_main_v210, val_main_v209, val_main_v208, val_main_v207, val_main_v205, val_main_v204, v202_apply X M hM hbig R C hR pw pb W,
    v203_apply X M hM hbig R C hR pw pb W, call7_v12_apply X M hM hbig R C hR pw pb W, v198_apply X M hM hbig R C hR pw pb W]
  exact congrArg (fun t => t * γ (ix1 f) + β (ix1 f)) hd

end Row

end Cert.Proof.RefRow
-- ==== Proof.Algebraic.lean ====
/-
  The kernel's idealization and the reference end with equal results under the precondition: both hold the formulas of
  Answer.lean.
-/
module

public import proofs.«01_k».proof.Defs
public import proofs.«01_k».proof.Proof.Drawn
public import proofs.«01_k».proof.Proof.KernelVals
public import proofs.«01_k».proof.Proof.RefRow
public import proofs.«01_k».proof.Proof.Gen.ReferenceIdeal.Run

@[expose] public section

set_option maxRecDepth 16384

noncomputable section

namespace Cert.Proof.Algebraic

open Cert.KernelIdeal Cert.KernelIdeal.Gen
open Idealize.SL.Sem
open Idealize.ShloMosaic Idealize.ShloMosaic.TcCoe Idealize.ShloMosaic.StableHlo
open Cert.Proof.KernelVals

variable (m : (ℓ : Loc nD τ sig) → Buf (Elt Ideal) ℓ) (ρ : Dev nD → PrngReg) (c : Dev nD)

/-- The mask argument. -/
abbrev A1 : FVec Ideal S4x512 .f32 := m ((c.tc : Thread nD τ).loc main_arg1)

variable (h : Cert.Pre_drawn.fn (F := Ideal) (A0 m c) (A1 m c) (A2 m c) (A3 m c) (A4 m c) (A5 m c) (A6 m c) (A7 m c) (A8 m c) = fun _ => 1#1)

include h in
/-- The edge features: the reference's formula on the arguments is what the kernel's first result holds. -/
theorem edge_eq : Cert.ReferenceIdeal.Read.val_main_v216 (F := Ideal) (A0 m c) (A1 m c) (A2 m c) (A3 m c) (A4 m c) (A5 m c) (A6 m c) (A7 m c) (A8 m c)
    = (W7 m ρ c (Proc.devRef .tc main_v34) : S4x512x64x128.Idx → EReal) := by
  have hbig := Drawn.gap_lt _ _ _ _ _ _ _ _ _ h
  funext i
  idx_vars i
  exact (RefRow.v216_apply _ _ (Drawn.mask_one _ _ _ _ _ _ _ _ _ h) hbig _ _ (Drawn.res_range _ _ _ _ _ _ _ _ _ h) _ _ _ _ _ i0 i1 i2 i3).trans
    (edge_end m ρ c hbig i0 i1 i2 i3).symm

include h in
/-- The neighbours' positions: likewise the second result. -/
theorem pos_eq : Cert.ReferenceIdeal.Read.val_main_indices (F := Ideal) (A0 m c) (A1 m c)
    = (W7 m ρ c (Proc.devRef .tc main_v27_1) : S4x512x64.Idx → BitVec 32) := by
  have hbig := Drawn.gap_lt _ _ _ _ _ _ _ _ _ h
  funext i
  idx_vars i
  exact (RefNear.indices_apply _ _ (Drawn.mask_one _ _ _ _ _ _ _ _ _ h) hbig i0 i1 i2).trans (pos_end m ρ c i0 i1 i2).symm

/-- Equal arguments, equal edge features. -/
theorem v216_congr {X X' : FVec Ideal S4x512x4x3 .f32} {M M' : FVec Ideal S4x512 .f32} {R R' C C' : IVec S4x512 32}
    {pw pw' : FVec Ideal S66x16 .f32} {pb pb' : FVec Ideal S16 .f32} {W W' : FVec Ideal S416x128 .f32} {γ γ' β β' : FVec Ideal S128 .f32}
    (e0 : X = X') (e1 : M = M') (e2 : R = R') (e3 : C = C') (e4 : pw = pw') (e5 : pb = pb') (e6 : W = W') (e7 : γ = γ') (e8 : β = β') :
    Cert.ReferenceIdeal.Read.val_main_v216 (F := Ideal) X M R C pw pb W γ β
      = Cert.ReferenceIdeal.Read.val_main_v216 (F := Ideal) X' M' R' C' pw' pb' W' γ' β' := by
  subst e0 e1 e2 e3 e4 e5 e6 e7 e8
  rfl

/-- Equal arguments, equal positions. -/
theorem indices_congr {X X' : FVec Ideal S4x512x4x3 .f32} {M M' : FVec Ideal S4x512 .f32} (e0 : X = X') (e1 : M = M') :
    Cert.ReferenceIdeal.Read.val_main_indices (F := Ideal) X M = Cert.ReferenceIdeal.Read.val_main_indices (F := Ideal) X' M' := by
  subst e0 e1
  rfl

/-- From equal arguments that the precondition admits, the kernel's idealization and the reference end with equal
    results, their arguments as launched. -/
theorem algebraic : Cert.algebraic_KernelIdeal_ReferenceIdeal_pre_drawn := by
  intro m ρ m' ρ' hpre hargs
  refine ⟨fun c => W7 m ρ c (Proc.devRef .tc main_v34), fun c => W7 m ρ c (Proc.devRef .tc main_v27_1), KernelRun.run m ρ, ?_⟩
  refine (θ_run Cert.ReferenceIdeal.defs _ _).mono (fun r h c => ?_) (Cert.ReferenceIdeal.Value.run (F := Ideal) m' ρ')
  obtain ⟨h0, h1, hrest⟩ := h c
  obtain ⟨e0, e1, e2, e3, e4, e5, e6, e7, e8⟩ := hargs c
  refine ⟨?_, ?_, hrest⟩
  · refine h0.trans ((Cert.ReferenceIdeal.Read.val_main_v216_eq (launchContents m' c)).trans ?_)
    refine Eq.trans ?_ (edge_eq m ρ c (hpre c))
    exact v216_congr e0 e1 e2 e3 e4 e5 e6 e7 e8
  · refine h1.trans ((Cert.ReferenceIdeal.Read.val_main_indices_eq (launchContents m' c)).trans ?_)
    refine Eq.trans ?_ (pos_eq m ρ c (hpre c))
    exact indices_congr e0 e1

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_drawn.Gen.facts,
    Frames.frame_p, Frames.frame_pi, fun m ρ _ => Frames.frame_pi m ρ trivial, Frames.frame_ri,
    fun m ρ _ => Frames.frame_ri m ρ trivial, Frames.preserves, Algebraic.algebraic⟩

end Cert.Proof

end
